-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores_unit_row [hPre_finite_scores_unit_row : Cert.Pre_finite_scores_unit_row.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores_unit_row.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores_unit_row [hPre_finite_scores_unit_row : Cert.Pre_finite_scores_unit_row.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores_unit_row.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores_unit_row [hPre_finite_scores_unit_row : Cert.Pre_finite_scores_unit_row.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores_unit_row.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores_unit_row [hPre_finite_scores_unit_row : Cert.Pre_finite_scores_unit_row.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores_unit_row.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinRefIdeal (m : (ℓ : Loc Cert.AinRefIdeal.nD Cert.AinRefIdeal.τ Cert.AinRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite_scores_unit_row [hFoxIdeal : Cert.FoxIdeal.Facts] [hPre_finite_scores_unit_row : Cert.Pre_finite_scores_unit_row.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores_unit_row m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite_scores_unit_row [hFoxRefIdeal : Cert.FoxRefIdeal.Facts] [hPre_finite_scores_unit_row : Cert.Pre_finite_scores_unit_row.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores_unit_row m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_scores_unit_row [hMlaIdeal : Cert.MlaIdeal.Facts] [hPre_finite_scores_unit_row : Cert.Pre_finite_scores_unit_row.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores_unit_row m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_scores_unit_row [hMlaRefIdeal : Cert.MlaRefIdeal.Facts] [hPre_finite_scores_unit_row : Cert.Pre_finite_scores_unit_row.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores_unit_row m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3)
      ∧ r.2.mem ((c.tc : Thread Cert.Fin.nD Cert.Fin.τ).loc Cert.Fin.main_arg4) = m ((c.tc : Thread Cert.Fin.nD Cert.Fin.τ).loc Cert.Fin.main_arg4)
      ∧ r.2.mem ((c.tc : Thread Cert.Fin.nD Cert.Fin.τ).loc Cert.Fin.main_arg5) = m ((c.tc : Thread Cert.Fin.nD Cert.Fin.τ).loc Cert.Fin.main_arg5)
      ∧ r.2.mem ((c.tc : Thread Cert.Fin.nD Cert.Fin.τ).loc Cert.Fin.main_arg6) = m ((c.tc : Thread Cert.Fin.nD Cert.Fin.τ).loc Cert.Fin.main_arg6))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
      ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
      ∧ r.2.mem ((c.tc : Thread Cert.FinIdeal.nD Cert.FinIdeal.τ).loc Cert.FinIdeal.main_arg5) = m ((c.tc : Thread Cert.FinIdeal.nD Cert.FinIdeal.τ).loc Cert.FinIdeal.main_arg5)
      ∧ r.2.mem ((c.tc : Thread Cert.FinIdeal.nD Cert.FinIdeal.τ).loc Cert.FinIdeal.main_arg6) = m ((c.tc : Thread Cert.FinIdeal.nD Cert.FinIdeal.τ).loc Cert.FinIdeal.main_arg6))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3)
      ∧ r.2.mem ((c.tc : Thread Cert.FinRefIdeal.nD Cert.FinRefIdeal.τ).loc Cert.FinRefIdeal.main_arg4) = m ((c.tc : Thread Cert.FinRefIdeal.nD Cert.FinRefIdeal.τ).loc Cert.FinRefIdeal.main_arg4)
      ∧ r.2.mem ((c.tc : Thread Cert.FinRefIdeal.nD Cert.FinRefIdeal.τ).loc Cert.FinRefIdeal.main_arg5) = m ((c.tc : Thread Cert.FinRefIdeal.nD Cert.FinRefIdeal.τ).loc Cert.FinRefIdeal.main_arg5)
      ∧ r.2.mem ((c.tc : Thread Cert.FinRefIdeal.nD Cert.FinRefIdeal.τ).loc Cert.FinRefIdeal.main_arg6) = m ((c.tc : Thread Cert.FinRefIdeal.nD Cert.FinRefIdeal.τ).loc Cert.FinRefIdeal.main_arg6))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1)
      ∧ r.2.mem ((c.tc : Thread Cert.Gin.nD Cert.Gin.τ).loc Cert.Gin.main_arg2) = m ((c.tc : Thread Cert.Gin.nD Cert.Gin.τ).loc Cert.Gin.main_arg2)
      ∧ r.2.mem ((c.tc : Thread Cert.Gin.nD Cert.Gin.τ).loc Cert.Gin.main_arg3) = m ((c.tc : Thread Cert.Gin.nD Cert.Gin.τ).loc Cert.Gin.main_arg3)
      ∧ r.2.mem ((c.tc : Thread Cert.Gin.nD Cert.Gin.τ).loc Cert.Gin.main_arg4) = m ((c.tc : Thread Cert.Gin.nD Cert.Gin.τ).loc Cert.Gin.main_arg4)
      ∧ r.2.mem ((c.tc : Thread Cert.Gin.nD Cert.Gin.τ).loc Cert.Gin.main_arg5) = m ((c.tc : Thread Cert.Gin.nD Cert.Gin.τ).loc Cert.Gin.main_arg5)
      ∧ r.2.mem ((c.tc : Thread Cert.Gin.nD Cert.Gin.τ).loc Cert.Gin.main_arg6) = m ((c.tc : Thread Cert.Gin.nD Cert.Gin.τ).loc Cert.Gin.main_arg6)
      ∧ r.2.mem ((c.tc : Thread Cert.Gin.nD Cert.Gin.τ).loc Cert.Gin.main_arg7) = m ((c.tc : Thread Cert.Gin.nD Cert.Gin.τ).loc Cert.Gin.main_arg7)
      ∧ r.2.mem ((c.tc : Thread Cert.Gin.nD Cert.Gin.τ).loc Cert.Gin.main_arg8) = m ((c.tc : Thread Cert.Gin.nD Cert.Gin.τ).loc Cert.Gin.main_arg8))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
      ∧ r.2.mem ((c.tc : Thread Cert.GinIdeal.nD Cert.GinIdeal.τ).loc Cert.GinIdeal.main_arg2) = m ((c.tc : Thread Cert.GinIdeal.nD Cert.GinIdeal.τ).loc Cert.GinIdeal.main_arg2)
      ∧ r.2.mem ((c.tc : Thread Cert.GinIdeal.nD Cert.GinIdeal.τ).loc Cert.GinIdeal.main_arg3) = m ((c.tc : Thread Cert.GinIdeal.nD Cert.GinIdeal.τ).loc Cert.GinIdeal.main_arg3)
      ∧ r.2.mem ((c.tc : Thread Cert.GinIdeal.nD Cert.GinIdeal.τ).loc Cert.GinIdeal.main_arg4) = m ((c.tc : Thread Cert.GinIdeal.nD Cert.GinIdeal.τ).loc Cert.GinIdeal.main_arg4)
      ∧ r.2.mem ((c.tc : Thread Cert.GinIdeal.nD Cert.GinIdeal.τ).loc Cert.GinIdeal.main_arg5) = m ((c.tc : Thread Cert.GinIdeal.nD Cert.GinIdeal.τ).loc Cert.GinIdeal.main_arg5)
      ∧ r.2.mem ((c.tc : Thread Cert.GinIdeal.nD Cert.GinIdeal.τ).loc Cert.GinIdeal.main_arg6) = m ((c.tc : Thread Cert.GinIdeal.nD Cert.GinIdeal.τ).loc Cert.GinIdeal.main_arg6)
      ∧ r.2.mem ((c.tc : Thread Cert.GinIdeal.nD Cert.GinIdeal.τ).loc Cert.GinIdeal.main_arg7) = m ((c.tc : Thread Cert.GinIdeal.nD Cert.GinIdeal.τ).loc Cert.GinIdeal.main_arg7)
      ∧ r.2.mem ((c.tc : Thread Cert.GinIdeal.nD Cert.GinIdeal.τ).loc Cert.GinIdeal.main_arg8) = m ((c.tc : Thread Cert.GinIdeal.nD Cert.GinIdeal.τ).loc Cert.GinIdeal.main_arg8))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1)
      ∧ r.2.mem ((c.tc : Thread Cert.GinRefIdeal.nD Cert.GinRefIdeal.τ).loc Cert.GinRefIdeal.main_arg2) = m ((c.tc : Thread Cert.GinRefIdeal.nD Cert.GinRefIdeal.τ).loc Cert.GinRefIdeal.main_arg2)
      ∧ r.2.mem ((c.tc : Thread Cert.GinRefIdeal.nD Cert.GinRefIdeal.τ).loc Cert.GinRefIdeal.main_arg3) = m ((c.tc : Thread Cert.GinRefIdeal.nD Cert.GinRefIdeal.τ).loc Cert.GinRefIdeal.main_arg3)
      ∧ r.2.mem ((c.tc : Thread Cert.GinRefIdeal.nD Cert.GinRefIdeal.τ).loc Cert.GinRefIdeal.main_arg4) = m ((c.tc : Thread Cert.GinRefIdeal.nD Cert.GinRefIdeal.τ).loc Cert.GinRefIdeal.main_arg4)
      ∧ r.2.mem ((c.tc : Thread Cert.GinRefIdeal.nD Cert.GinRefIdeal.τ).loc Cert.GinRefIdeal.main_arg5) = m ((c.tc : Thread Cert.GinRefIdeal.nD Cert.GinRefIdeal.τ).loc Cert.GinRefIdeal.main_arg5)
      ∧ r.2.mem ((c.tc : Thread Cert.GinRefIdeal.nD Cert.GinRefIdeal.τ).loc Cert.GinRefIdeal.main_arg6) = m ((c.tc : Thread Cert.GinRefIdeal.nD Cert.GinRefIdeal.τ).loc Cert.GinRefIdeal.main_arg6)
      ∧ r.2.mem ((c.tc : Thread Cert.GinRefIdeal.nD Cert.GinRefIdeal.τ).loc Cert.GinRefIdeal.main_arg7) = m ((c.tc : Thread Cert.GinRefIdeal.nD Cert.GinRefIdeal.τ).loc Cert.GinRefIdeal.main_arg7)
      ∧ r.2.mem ((c.tc : Thread Cert.GinRefIdeal.nD Cert.GinRefIdeal.τ).loc Cert.GinRefIdeal.main_arg8) = m ((c.tc : Thread Cert.GinRefIdeal.nD Cert.GinRefIdeal.τ).loc Cert.GinRefIdeal.main_arg8))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1)
      ∧ r.2.mem ((c.tc : Thread Cert.Ain.nD Cert.Ain.τ).loc Cert.Ain.main_arg2) = m ((c.tc : Thread Cert.Ain.nD Cert.Ain.τ).loc Cert.Ain.main_arg2)
      ∧ r.2.mem ((c.tc : Thread Cert.Ain.nD Cert.Ain.τ).loc Cert.Ain.main_arg3) = m ((c.tc : Thread Cert.Ain.nD Cert.Ain.τ).loc Cert.Ain.main_arg3)
      ∧ r.2.mem ((c.tc : Thread Cert.Ain.nD Cert.Ain.τ).loc Cert.Ain.main_arg4) = m ((c.tc : Thread Cert.Ain.nD Cert.Ain.τ).loc Cert.Ain.main_arg4)
      ∧ r.2.mem ((c.tc : Thread Cert.Ain.nD Cert.Ain.τ).loc Cert.Ain.main_arg5) = m ((c.tc : Thread Cert.Ain.nD Cert.Ain.τ).loc Cert.Ain.main_arg5)
      ∧ r.2.mem ((c.tc : Thread Cert.Ain.nD Cert.Ain.τ).loc Cert.Ain.main_arg6) = m ((c.tc : Thread Cert.Ain.nD Cert.Ain.τ).loc Cert.Ain.main_arg6)
      ∧ r.2.mem ((c.tc : Thread Cert.Ain.nD Cert.Ain.τ).loc Cert.Ain.main_arg7) = m ((c.tc : Thread Cert.Ain.nD Cert.Ain.τ).loc Cert.Ain.main_arg7))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
      ∧ r.2.mem ((c.tc : Thread Cert.AinIdeal.nD Cert.AinIdeal.τ).loc Cert.AinIdeal.main_arg2) = m ((c.tc : Thread Cert.AinIdeal.nD Cert.AinIdeal.τ).loc Cert.AinIdeal.main_arg2)
      ∧ r.2.mem ((c.tc : Thread Cert.AinIdeal.nD Cert.AinIdeal.τ).loc Cert.AinIdeal.main_arg3) = m ((c.tc : Thread Cert.AinIdeal.nD Cert.AinIdeal.τ).loc Cert.AinIdeal.main_arg3)
      ∧ r.2.mem ((c.tc : Thread Cert.AinIdeal.nD Cert.AinIdeal.τ).loc Cert.AinIdeal.main_arg4) = m ((c.tc : Thread Cert.AinIdeal.nD Cert.AinIdeal.τ).loc Cert.AinIdeal.main_arg4)
      ∧ r.2.mem ((c.tc : Thread Cert.AinIdeal.nD Cert.AinIdeal.τ).loc Cert.AinIdeal.main_arg5) = m ((c.tc : Thread Cert.AinIdeal.nD Cert.AinIdeal.τ).loc Cert.AinIdeal.main_arg5)
      ∧ r.2.mem ((c.tc : Thread Cert.AinIdeal.nD Cert.AinIdeal.τ).loc Cert.AinIdeal.main_arg6) = m ((c.tc : Thread Cert.AinIdeal.nD Cert.AinIdeal.τ).loc Cert.AinIdeal.main_arg6)
      ∧ r.2.mem ((c.tc : Thread Cert.AinIdeal.nD Cert.AinIdeal.τ).loc Cert.AinIdeal.main_arg7) = m ((c.tc : Thread Cert.AinIdeal.nD Cert.AinIdeal.τ).loc Cert.AinIdeal.main_arg7))
      ∧ r.2.sem = fun _ => 0)

def quiescent_AinRefIdeal [hAinRefIdeal : Cert.AinRefIdeal.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1)
      ∧ r.2.mem ((c.tc : Thread Cert.AinRefIdeal.nD Cert.AinRefIdeal.τ).loc Cert.AinRefIdeal.main_arg2) = m ((c.tc : Thread Cert.AinRefIdeal.nD Cert.AinRefIdeal.τ).loc Cert.AinRefIdeal.main_arg2)
      ∧ r.2.mem ((c.tc : Thread Cert.AinRefIdeal.nD Cert.AinRefIdeal.τ).loc Cert.AinRefIdeal.main_arg3) = m ((c.tc : Thread Cert.AinRefIdeal.nD Cert.AinRefIdeal.τ).loc Cert.AinRefIdeal.main_arg3)
      ∧ r.2.mem ((c.tc : Thread Cert.AinRefIdeal.nD Cert.AinRefIdeal.τ).loc Cert.AinRefIdeal.main_arg4) = m ((c.tc : Thread Cert.AinRefIdeal.nD Cert.AinRefIdeal.τ).loc Cert.AinRefIdeal.main_arg4)
      ∧ r.2.mem ((c.tc : Thread Cert.AinRefIdeal.nD Cert.AinRefIdeal.τ).loc Cert.AinRefIdeal.main_arg5) = m ((c.tc : Thread Cert.AinRefIdeal.nD Cert.AinRefIdeal.τ).loc Cert.AinRefIdeal.main_arg5)
      ∧ r.2.mem ((c.tc : Thread Cert.AinRefIdeal.nD Cert.AinRefIdeal.τ).loc Cert.AinRefIdeal.main_arg6) = m ((c.tc : Thread Cert.AinRefIdeal.nD Cert.AinRefIdeal.τ).loc Cert.AinRefIdeal.main_arg6)
      ∧ r.2.mem ((c.tc : Thread Cert.AinRefIdeal.nD Cert.AinRefIdeal.τ).loc Cert.AinRefIdeal.main_arg7) = m ((c.tc : Thread Cert.AinRefIdeal.nD Cert.AinRefIdeal.τ).loc Cert.AinRefIdeal.main_arg7))
      ∧ r.2.sem = fun _ => 0)

def preserves_Fox_FoxIdeal : Prop :=
  IdealRules.named_const.Statement Cert.FoxIdeal.κ "mask" .f32 0xFF7F0000#32 ⊥

def algebraic_FoxIdeal_FoxRefIdeal_pre_finite_scores_unit_row [hFoxIdeal : Cert.FoxIdeal.Facts] [hFoxRefIdeal : Cert.FoxRefIdeal.Facts] [hPre_finite_scores_unit_row : Cert.Pre_finite_scores_unit_row.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores_unit_row m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v36) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Mla_MlaIdeal : Prop :=
  IdealRules.named_const.Statement Cert.MlaIdeal.κ "mask" .f32 0xFF7F0000#32 ⊥

def algebraic_MlaIdeal_MlaRefIdeal_pre_finite_scores_unit_row [hMlaIdeal : Cert.MlaIdeal.Facts] [hMlaRefIdeal : Cert.MlaRefIdeal.Facts] [hPre_finite_scores_unit_row : Cert.Pre_finite_scores_unit_row.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores_unit_row m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v38) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v31) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)
      ∧ m' ((c.tc : Thread Cert.FinRefIdeal.nD Cert.FinRefIdeal.τ).loc Cert.FinRefIdeal.main_arg4) = m ((c.tc : Thread Cert.FinIdeal.nD Cert.FinIdeal.τ).loc Cert.FinIdeal.main_arg4)
      ∧ m' ((c.tc : Thread Cert.FinRefIdeal.nD Cert.FinRefIdeal.τ).loc Cert.FinRefIdeal.main_arg5) = m ((c.tc : Thread Cert.FinIdeal.nD Cert.FinIdeal.τ).loc Cert.FinIdeal.main_arg5)
      ∧ m' ((c.tc : Thread Cert.FinRefIdeal.nD Cert.FinRefIdeal.τ).loc Cert.FinRefIdeal.main_arg6) = m ((c.tc : Thread Cert.FinIdeal.nD Cert.FinIdeal.τ).loc Cert.FinIdeal.main_arg6)) →
    ∃ (v0 : (c : Dev Cert.FinIdeal.nD) → Buf (Elt Ideal) ((c.tc : Thread Cert.FinIdeal.nD Cert.FinIdeal.τ).loc Cert.FinIdeal.main_v5)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v5) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
          ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
          ∧ r.2.mem ((c.tc : Thread Cert.FinIdeal.nD Cert.FinIdeal.τ).loc Cert.FinIdeal.main_arg5) = m ((c.tc : Thread Cert.FinIdeal.nD Cert.FinIdeal.τ).loc Cert.FinIdeal.main_arg5)
          ∧ r.2.mem ((c.tc : Thread Cert.FinIdeal.nD Cert.FinIdeal.τ).loc Cert.FinIdeal.main_arg6) = m ((c.tc : Thread Cert.FinIdeal.nD Cert.FinIdeal.τ).loc Cert.FinIdeal.main_arg6))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v43) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3)
          ∧ r.2.mem ((c.tc : Thread Cert.FinRefIdeal.nD Cert.FinRefIdeal.τ).loc Cert.FinRefIdeal.main_arg4) = m' ((c.tc : Thread Cert.FinRefIdeal.nD Cert.FinRefIdeal.τ).loc Cert.FinRefIdeal.main_arg4)
          ∧ r.2.mem ((c.tc : Thread Cert.FinRefIdeal.nD Cert.FinRefIdeal.τ).loc Cert.FinRefIdeal.main_arg5) = m' ((c.tc : Thread Cert.FinRefIdeal.nD Cert.FinRefIdeal.τ).loc Cert.FinRefIdeal.main_arg5)
          ∧ r.2.mem ((c.tc : Thread Cert.FinRefIdeal.nD Cert.FinRefIdeal.τ).loc Cert.FinRefIdeal.main_arg6) = m' ((c.tc : Thread Cert.FinRefIdeal.nD Cert.FinRefIdeal.τ).loc Cert.FinRefIdeal.main_arg6))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)
      ∧ m' ((c.tc : Thread Cert.GinRefIdeal.nD Cert.GinRefIdeal.τ).loc Cert.GinRefIdeal.main_arg2) = m ((c.tc : Thread Cert.GinIdeal.nD Cert.GinIdeal.τ).loc Cert.GinIdeal.main_arg2)
      ∧ m' ((c.tc : Thread Cert.GinRefIdeal.nD Cert.GinRefIdeal.τ).loc Cert.GinRefIdeal.main_arg3) = m ((c.tc : Thread Cert.GinIdeal.nD Cert.GinIdeal.τ).loc Cert.GinIdeal.main_arg3)
      ∧ m' ((c.tc : Thread Cert.GinRefIdeal.nD Cert.GinRefIdeal.τ).loc Cert.GinRefIdeal.main_arg4) = m ((c.tc : Thread Cert.GinIdeal.nD Cert.GinIdeal.τ).loc Cert.GinIdeal.main_arg4)
      ∧ m' ((c.tc : Thread Cert.GinRefIdeal.nD Cert.GinRefIdeal.τ).loc Cert.GinRefIdeal.main_arg5) = m ((c.tc : Thread Cert.GinIdeal.nD Cert.GinIdeal.τ).loc Cert.GinIdeal.main_arg5)
      ∧ m' ((c.tc : Thread Cert.GinRefIdeal.nD Cert.GinRefIdeal.τ).loc Cert.GinRefIdeal.main_arg6) = m ((c.tc : Thread Cert.GinIdeal.nD Cert.GinIdeal.τ).loc Cert.GinIdeal.main_arg6)
      ∧ m' ((c.tc : Thread Cert.GinRefIdeal.nD Cert.GinRefIdeal.τ).loc Cert.GinRefIdeal.main_arg7) = m ((c.tc : Thread Cert.GinIdeal.nD Cert.GinIdeal.τ).loc Cert.GinIdeal.main_arg7)
      ∧ m' ((c.tc : Thread Cert.GinRefIdeal.nD Cert.GinRefIdeal.τ).loc Cert.GinRefIdeal.main_arg8) = m ((c.tc : Thread Cert.GinIdeal.nD Cert.GinIdeal.τ).loc Cert.GinIdeal.main_arg8)) →
    ∃ (v0 : (c : Dev Cert.GinIdeal.nD) → Buf (Elt Ideal) ((c.tc : Thread Cert.GinIdeal.nD Cert.GinIdeal.τ).loc Cert.GinIdeal.main_v25_0)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v25_0) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
          ∧ r.2.mem ((c.tc : Thread Cert.GinIdeal.nD Cert.GinIdeal.τ).loc Cert.GinIdeal.main_arg2) = m ((c.tc : Thread Cert.GinIdeal.nD Cert.GinIdeal.τ).loc Cert.GinIdeal.main_arg2)
          ∧ r.2.mem ((c.tc : Thread Cert.GinIdeal.nD Cert.GinIdeal.τ).loc Cert.GinIdeal.main_arg3) = m ((c.tc : Thread Cert.GinIdeal.nD Cert.GinIdeal.τ).loc Cert.GinIdeal.main_arg3)
          ∧ r.2.mem ((c.tc : Thread Cert.GinIdeal.nD Cert.GinIdeal.τ).loc Cert.GinIdeal.main_arg4) = m ((c.tc : Thread Cert.GinIdeal.nD Cert.GinIdeal.τ).loc Cert.GinIdeal.main_arg4)
          ∧ r.2.mem ((c.tc : Thread Cert.GinIdeal.nD Cert.GinIdeal.τ).loc Cert.GinIdeal.main_arg5) = m ((c.tc : Thread Cert.GinIdeal.nD Cert.GinIdeal.τ).loc Cert.GinIdeal.main_arg5)
          ∧ r.2.mem ((c.tc : Thread Cert.GinIdeal.nD Cert.GinIdeal.τ).loc Cert.GinIdeal.main_arg6) = m ((c.tc : Thread Cert.GinIdeal.nD Cert.GinIdeal.τ).loc Cert.GinIdeal.main_arg6)
          ∧ r.2.mem ((c.tc : Thread Cert.GinIdeal.nD Cert.GinIdeal.τ).loc Cert.GinIdeal.main_arg7) = m ((c.tc : Thread Cert.GinIdeal.nD Cert.GinIdeal.τ).loc Cert.GinIdeal.main_arg7)
          ∧ r.2.mem ((c.tc : Thread Cert.GinIdeal.nD Cert.GinIdeal.τ).loc Cert.GinIdeal.main_arg8) = m ((c.tc : Thread Cert.GinIdeal.nD Cert.GinIdeal.τ).loc Cert.GinIdeal.main_arg8))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v27) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1)
          ∧ r.2.mem ((c.tc : Thread Cert.GinRefIdeal.nD Cert.GinRefIdeal.τ).loc Cert.GinRefIdeal.main_arg2) = m' ((c.tc : Thread Cert.GinRefIdeal.nD Cert.GinRefIdeal.τ).loc Cert.GinRefIdeal.main_arg2)
          ∧ r.2.mem ((c.tc : Thread Cert.GinRefIdeal.nD Cert.GinRefIdeal.τ).loc Cert.GinRefIdeal.main_arg3) = m' ((c.tc : Thread Cert.GinRefIdeal.nD Cert.GinRefIdeal.τ).loc Cert.GinRefIdeal.main_arg3)
          ∧ r.2.mem ((c.tc : Thread Cert.GinRefIdeal.nD Cert.GinRefIdeal.τ).loc Cert.GinRefIdeal.main_arg4) = m' ((c.tc : Thread Cert.GinRefIdeal.nD Cert.GinRefIdeal.τ).loc Cert.GinRefIdeal.main_arg4)
          ∧ r.2.mem ((c.tc : Thread Cert.GinRefIdeal.nD Cert.GinRefIdeal.τ).loc Cert.GinRefIdeal.main_arg5) = m' ((c.tc : Thread Cert.GinRefIdeal.nD Cert.GinRefIdeal.τ).loc Cert.GinRefIdeal.main_arg5)
          ∧ r.2.mem ((c.tc : Thread Cert.GinRefIdeal.nD Cert.GinRefIdeal.τ).loc Cert.GinRefIdeal.main_arg6) = m' ((c.tc : Thread Cert.GinRefIdeal.nD Cert.GinRefIdeal.τ).loc Cert.GinRefIdeal.main_arg6)
          ∧ r.2.mem ((c.tc : Thread Cert.GinRefIdeal.nD Cert.GinRefIdeal.τ).loc Cert.GinRefIdeal.main_arg7) = m' ((c.tc : Thread Cert.GinRefIdeal.nD Cert.GinRefIdeal.τ).loc Cert.GinRefIdeal.main_arg7)
          ∧ r.2.mem ((c.tc : Thread Cert.GinRefIdeal.nD Cert.GinRefIdeal.τ).loc Cert.GinRefIdeal.main_arg8) = m' ((c.tc : Thread Cert.GinRefIdeal.nD Cert.GinRefIdeal.τ).loc Cert.GinRefIdeal.main_arg8))

def preserves_Ain_AinIdeal : Prop :=
  True

def algebraic_AinIdeal_AinRefIdeal [hAinIdeal : Cert.AinIdeal.Facts] [hAinRefIdeal : Cert.AinRefIdeal.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinRefIdeal.nD Cert.AinRefIdeal.τ Cert.AinRefIdeal.sig) → Buf (Elt Ideal) ℓ) (g' : Dev Cert.AinRefIdeal.nD → PrngReg), Pre_AinIdeal m →
    (∀ c : Dev Cert.AinIdeal.nD,
      m' ((c.tc : Thread Cert.AinRefIdeal.nD Cert.AinRefIdeal.τ).loc Cert.AinRefIdeal.main_arg0) = m ((c.tc : Thread Cert.AinIdeal.nD Cert.AinIdeal.τ).loc Cert.AinIdeal.main_arg0)
      ∧ m' ((c.tc : Thread Cert.AinRefIdeal.nD Cert.AinRefIdeal.τ).loc Cert.AinRefIdeal.main_arg1) = m ((c.tc : Thread Cert.AinIdeal.nD Cert.AinIdeal.τ).loc Cert.AinIdeal.main_arg1)
      ∧ m' ((c.tc : Thread Cert.AinRefIdeal.nD Cert.AinRefIdeal.τ).loc Cert.AinRefIdeal.main_arg2) = m ((c.tc : Thread Cert.AinIdeal.nD Cert.AinIdeal.τ).loc Cert.AinIdeal.main_arg2)
      ∧ m' ((c.tc : Thread Cert.AinRefIdeal.nD Cert.AinRefIdeal.τ).loc Cert.AinRefIdeal.main_arg3) = m ((c.tc : Thread Cert.AinIdeal.nD Cert.AinIdeal.τ).loc Cert.AinIdeal.main_arg3)
      ∧ m' ((c.tc : Thread Cert.AinRefIdeal.nD Cert.AinRefIdeal.τ).loc Cert.AinRefIdeal.main_arg4) = m ((c.tc : Thread Cert.AinIdeal.nD Cert.AinIdeal.τ).loc Cert.AinIdeal.main_arg4)
      ∧ m' ((c.tc : Thread Cert.AinRefIdeal.nD Cert.AinRefIdeal.τ).loc Cert.AinRefIdeal.main_arg5) = m ((c.tc : Thread Cert.AinIdeal.nD Cert.AinIdeal.τ).loc Cert.AinIdeal.main_arg5)
      ∧ m' ((c.tc : Thread Cert.AinRefIdeal.nD Cert.AinRefIdeal.τ).loc Cert.AinRefIdeal.main_arg6) = m ((c.tc : Thread Cert.AinIdeal.nD Cert.AinIdeal.τ).loc Cert.AinIdeal.main_arg6)
      ∧ m' ((c.tc : Thread Cert.AinRefIdeal.nD Cert.AinRefIdeal.τ).loc Cert.AinRefIdeal.main_arg7) = m ((c.tc : Thread Cert.AinIdeal.nD Cert.AinIdeal.τ).loc Cert.AinIdeal.main_arg7)) →
    ∃ (v0 : (c : Dev Cert.AinIdeal.nD) → Buf (Elt Ideal) ((c.tc : Thread Cert.AinIdeal.nD Cert.AinIdeal.τ).loc Cert.AinIdeal.main_v73_0)) (v1 : (c : Dev Cert.AinIdeal.nD) → Buf (Elt Ideal) ((c.tc : Thread Cert.AinIdeal.nD Cert.AinIdeal.τ).loc Cert.AinIdeal.main_v73_2)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v73_0) = v0 c
          ∧ r.2.mem ((c.tc : Thread Cert.AinIdeal.nD Cert.AinIdeal.τ).loc Cert.AinIdeal.main_v73_2) = v1 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
          ∧ r.2.mem ((c.tc : Thread Cert.AinIdeal.nD Cert.AinIdeal.τ).loc Cert.AinIdeal.main_arg2) = m ((c.tc : Thread Cert.AinIdeal.nD Cert.AinIdeal.τ).loc Cert.AinIdeal.main_arg2)
          ∧ r.2.mem ((c.tc : Thread Cert.AinIdeal.nD Cert.AinIdeal.τ).loc Cert.AinIdeal.main_arg3) = m ((c.tc : Thread Cert.AinIdeal.nD Cert.AinIdeal.τ).loc Cert.AinIdeal.main_arg3)
          ∧ r.2.mem ((c.tc : Thread Cert.AinIdeal.nD Cert.AinIdeal.τ).loc Cert.AinIdeal.main_arg4) = m ((c.tc : Thread Cert.AinIdeal.nD Cert.AinIdeal.τ).loc Cert.AinIdeal.main_arg4)
          ∧ r.2.mem ((c.tc : Thread Cert.AinIdeal.nD Cert.AinIdeal.τ).loc Cert.AinIdeal.main_arg5) = m ((c.tc : Thread Cert.AinIdeal.nD Cert.AinIdeal.τ).loc Cert.AinIdeal.main_arg5)
          ∧ r.2.mem ((c.tc : Thread Cert.AinIdeal.nD Cert.AinIdeal.τ).loc Cert.AinIdeal.main_arg6) = m ((c.tc : Thread Cert.AinIdeal.nD Cert.AinIdeal.τ).loc Cert.AinIdeal.main_arg6)
          ∧ r.2.mem ((c.tc : Thread Cert.AinIdeal.nD Cert.AinIdeal.τ).loc Cert.AinIdeal.main_arg7) = m ((c.tc : Thread Cert.AinIdeal.nD Cert.AinIdeal.τ).loc Cert.AinIdeal.main_arg7))
      ∧ θ_run (Cert.AinRefIdeal.defs (F := Ideal)) (onTc (τ := Cert.AinRefIdeal.τ) (Cert.AinRefIdeal.main (F := Ideal))) ⟨m', fun _ => 0, g'⟩ (fun r => ∀ c : Dev Cert.AinRefIdeal.nD,
          r.2.mem ((c.tc : Thread Cert.AinRefIdeal.nD Cert.AinRefIdeal.τ).loc Cert.AinRefIdeal.main_v33) = v0 c
          ∧ r.2.mem ((c.tc : Thread Cert.AinRefIdeal.nD Cert.AinRefIdeal.τ).loc Cert.AinRefIdeal.main_v36) = v1 c
          ∧ r.2.mem ((c.tc : Thread Cert.AinRefIdeal.nD Cert.AinRefIdeal.τ).loc Cert.AinRefIdeal.main_arg0) = m' ((c.tc : Thread Cert.AinRefIdeal.nD Cert.AinRefIdeal.τ).loc Cert.AinRefIdeal.main_arg0)
          ∧ r.2.mem ((c.tc : Thread Cert.AinRefIdeal.nD Cert.AinRefIdeal.τ).loc Cert.AinRefIdeal.main_arg1) = m' ((c.tc : Thread Cert.AinRefIdeal.nD Cert.AinRefIdeal.τ).loc Cert.AinRefIdeal.main_arg1)
          ∧ r.2.mem ((c.tc : Thread Cert.AinRefIdeal.nD Cert.AinRefIdeal.τ).loc Cert.AinRefIdeal.main_arg2) = m' ((c.tc : Thread Cert.AinRefIdeal.nD Cert.AinRefIdeal.τ).loc Cert.AinRefIdeal.main_arg2)
          ∧ r.2.mem ((c.tc : Thread Cert.AinRefIdeal.nD Cert.AinRefIdeal.τ).loc Cert.AinRefIdeal.main_arg3) = m' ((c.tc : Thread Cert.AinRefIdeal.nD Cert.AinRefIdeal.τ).loc Cert.AinRefIdeal.main_arg3)
          ∧ r.2.mem ((c.tc : Thread Cert.AinRefIdeal.nD Cert.AinRefIdeal.τ).loc Cert.AinRefIdeal.main_arg4) = m' ((c.tc : Thread Cert.AinRefIdeal.nD Cert.AinRefIdeal.τ).loc Cert.AinRefIdeal.main_arg4)
          ∧ r.2.mem ((c.tc : Thread Cert.AinRefIdeal.nD Cert.AinRefIdeal.τ).loc Cert.AinRefIdeal.main_arg5) = m' ((c.tc : Thread Cert.AinRefIdeal.nD Cert.AinRefIdeal.τ).loc Cert.AinRefIdeal.main_arg5)
          ∧ r.2.mem ((c.tc : Thread Cert.AinRefIdeal.nD Cert.AinRefIdeal.τ).loc Cert.AinRefIdeal.main_arg6) = m' ((c.tc : Thread Cert.AinRefIdeal.nD Cert.AinRefIdeal.τ).loc Cert.AinRefIdeal.main_arg6)
          ∧ r.2.mem ((c.tc : Thread Cert.AinRefIdeal.nD Cert.AinRefIdeal.τ).loc Cert.AinRefIdeal.main_arg7) = m' ((c.tc : Thread Cert.AinRefIdeal.nD Cert.AinRefIdeal.τ).loc Cert.AinRefIdeal.main_arg7))

def Claim : Prop :=
  ∃ (hFox : Cert.Fox.Facts) (hFoxIdeal : Cert.FoxIdeal.Facts) (hFoxRefIdeal : Cert.FoxRefIdeal.Facts) (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFin : Cert.Fin.Facts) (hFinIdeal : Cert.FinIdeal.Facts) (hFinRefIdeal : Cert.FinRefIdeal.Facts) (hGin : Cert.Gin.Facts) (hGinIdeal : Cert.GinIdeal.Facts) (hGinRefIdeal : Cert.GinRefIdeal.Facts) (hAin : Cert.Ain.Facts) (hAinIdeal : Cert.AinIdeal.Facts) (hAinRefIdeal : Cert.AinRefIdeal.Facts) (hPre_finite_scores_unit_row : Cert.Pre_finite_scores_unit_row.Facts),
    quiescent_Fox (hFox := hFox)
    ∧ quiescent_FoxIdeal (hFoxIdeal := hFoxIdeal)
    ∧ quiescent_FoxIdeal_pre_finite_scores_unit_row (hFoxIdeal := hFoxIdeal) (hPre_finite_scores_unit_row := hPre_finite_scores_unit_row)
    ∧ quiescent_FoxRefIdeal (hFoxRefIdeal := hFoxRefIdeal)
    ∧ quiescent_FoxRefIdeal_pre_finite_scores_unit_row (hFoxRefIdeal := hFoxRefIdeal) (hPre_finite_scores_unit_row := hPre_finite_scores_unit_row)
    ∧ quiescent_Mla (hMla := hMla)
    ∧ quiescent_MlaIdeal (hMlaIdeal := hMlaIdeal)
    ∧ quiescent_MlaIdeal_pre_finite_scores_unit_row (hMlaIdeal := hMlaIdeal) (hPre_finite_scores_unit_row := hPre_finite_scores_unit_row)
    ∧ quiescent_MlaRefIdeal (hMlaRefIdeal := hMlaRefIdeal)
    ∧ quiescent_MlaRefIdeal_pre_finite_scores_unit_row (hMlaRefIdeal := hMlaRefIdeal) (hPre_finite_scores_unit_row := hPre_finite_scores_unit_row)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Fin (hFin := hFin)
    ∧ quiescent_FinIdeal (hFinIdeal := hFinIdeal)
    ∧ quiescent_FinRefIdeal (hFinRefIdeal := hFinRefIdeal)
    ∧ quiescent_Gin (hGin := hGin)
    ∧ quiescent_GinIdeal (hGinIdeal := hGinIdeal)
    ∧ quiescent_GinRefIdeal (hGinRefIdeal := hGinRefIdeal)
    ∧ quiescent_Ain (hAin := hAin)
    ∧ quiescent_AinIdeal (hAinIdeal := hAinIdeal)
    ∧ quiescent_AinRefIdeal (hAinRefIdeal := hAinRefIdeal)
    ∧ preserves_Fox_FoxIdeal
    ∧ algebraic_FoxIdeal_FoxRefIdeal_pre_finite_scores_unit_row (hFoxIdeal := hFoxIdeal) (hFoxRefIdeal := hFoxRefIdeal) (hPre_finite_scores_unit_row := hPre_finite_scores_unit_row)
    ∧ preserves_Mla_MlaIdeal
    ∧ algebraic_MlaIdeal_MlaRefIdeal_pre_finite_scores_unit_row (hMlaIdeal := hMlaIdeal) (hMlaRefIdeal := hMlaRefIdeal) (hPre_finite_scores_unit_row := hPre_finite_scores_unit_row)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Fin_FinIdeal
    ∧ algebraic_FinIdeal_FinRefIdeal (hFinIdeal := hFinIdeal) (hFinRefIdeal := hFinRefIdeal)
    ∧ preserves_Gin_GinIdeal
    ∧ algebraic_GinIdeal_GinRefIdeal (hGinIdeal := hGinIdeal) (hGinRefIdeal := hGinRefIdeal)
    ∧ preserves_Ain_AinIdeal
    ∧ algebraic_AinIdeal_AinRefIdeal (hAinIdeal := hAinIdeal) (hAinRefIdeal := hAinRefIdeal)
-- ==== Pre_finite_scores_unit_row.lean ====
abbrev S1024x32768 : Shape := ⟨2, ![1024, 32768]⟩
abbrev S16x2048x1024 : Shape := ⟨3, ![16, 2048, 1024]⟩
abbrev S640x32768 : Shape := ⟨2, ![640, 32768]⟩
abbrev S8x80x32768 : Shape := ⟨3, ![8, 80, 32768]⟩
abbrev S8x1x32768 : Shape := ⟨3, ![8, 1, 32768]⟩
abbrev S8x32768 : Shape := ⟨2, ![8, 32768]⟩
abbrev S_ : Shape := ⟨0, ![]⟩

class Facts : Prop where
  bitsLt_bf16_f32 : FTy.bits .bf16 < FTy.bits .f32
  shapeCasts_S640x32768_S8x80x32768 : S640x32768.ShapeCasts S8x80x32768
  slices_S8x80x32768_S8x1x32768_0_64_0 : S8x80x32768.Slices ![0, 64, 0] S8x1x32768
  shapeCasts_S8x1x32768_S8x32768 : S8x1x32768.ShapeCasts S8x32768
  bcast_S_S8x32768 : S_.BroadcastsInDim S8x32768 (![] : Fin 0 → Fin S8x32768.rank)
  bcast_S_S1024x32768 : S_.BroadcastsInDim S1024x32768 (![] : Fin 0 → Fin S1024x32768.rank)
  reducesTo_S1024x32768_S_d0_1 : S1024x32768.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  reducesTo_S8x32768_S_d0_1 : S8x32768.ReducesTo [0, 1] S_

variable [Facts]

def fn_part1 {F : FTy → Type} [FloatOps F] (main_v16 : IVec S_ 1) (main_v17 : IVec S_ 1) : IVec S_ 1 :=
  let main_v18 : IVec S_ 1 := andi main_v16 main_v17
  main_v18

def fn {F : FTy → Type} [FloatOps F] (main_arg0 : FVec F S1024x32768 .bf16) (main_arg1 : FVec F S16x2048x1024 .bf16) (main_arg2 : FVec F S640x32768 .bf16) : IVec S_ 1 :=
  let main_v0 : FVec F S640x32768 .f32 := (extf .f32 · bitsLt_bf16_f32) main_arg2
  let main_v1 : FVec F S8x80x32768 .f32 := shapeCast S8x80x32768 main_v0 shapeCasts_S640x32768_S8x80x32768
  let main_v2 : FVec F S8x1x32768 .f32 := (extractStridedSlice S8x1x32768 ![0, 64, 0] · slices_S8x80x32768_S8x1x32768_0_64_0) main_v1
  let main_v3 : FVec F S8x32768 .f32 := shapeCast S8x32768 main_v2 shapeCasts_S8x1x32768_S8x32768
  let main_cst : FVec F S_ .f32 := constant S_ .f32 0x3F800000#32
  let main_v4 : FVec F S8x32768 .f32 := broadcastInDim S8x32768 ![] bcast_S_S8x32768 main_cst
  let main_v5 : IVec S8x32768 1 := cmpf .oeq main_v3 main_v4
  let main_v6 : FVec F S1024x32768 .f32 := (extf .f32 · bitsLt_bf16_f32) main_arg0
  let main_v7 : FVec F S1024x32768 .f32 := Host.absf main_v6
  let main_cst_0 : FVec F S_ .f32 := constant S_ .f32 0x7F800000#32
  let main_v8 : FVec F S1024x32768 .f32 := broadcastInDim S1024x32768 ![] bcast_S_S1024x32768 main_cst_0
  let main_v9 : IVec S1024x32768 1 := cmpf .olt main_v7 main_v8
  let main_c : IVec S_ 1 := constantI S_ 1 1#1
  let main_v10 : IVec S_ 1 := (fun x v => Host.reduce IntOp.andi x v reducesTo_S1024x32768_S_d0_1 h_S_) main_v9 main_c
  let main_v11 : FVec F S16x2048x1024 .f32 := (extf .f32 · bitsLt_bf16_f32) main_arg1
  let main_v12 : FVec F S16x2048x1024 .f32 := Host.absf main_v11
  let main_cst_1 : FVec F S_ .f32 := constant S_ .f32 0x7F800000#32
  let main_v13 : FVec F S16x2048x1024 .f32 := broadcastInDim S16x2048x1024 ![] bcast_S_S16x2048x1024 main_cst_1
  let main_v14 : IVec S16x2048x1024 1 := cmpf .olt main_v12 main_v13
  let main_c_2 : IVec S_ 1 := constantI S_ 1 1#1
  let main_v15 : IVec S_ 1 := (fun x v => Host.reduce IntOp.andi x v reducesTo_S16x2048x1024_S_d0_1_2 h_S_) main_v14 main_c_2
  let main_v16 : IVec S_ 1 := andi main_v10 main_v15
  let main_c_3 : IVec S_ 1 := constantI S_ 1 1#1
  let main_v17 : IVec S_ 1 := (fun x v => Host.reduce IntOp.andi x v reducesTo_S8x32768_S_d0_1 h_S_) main_v5 main_c_3
  fn_part1 (F := F) main_v16 main_v17
-- ==== Fox.lean ====
abbrev S1024x32768 : Shape := ⟨2, ![1024, 32768]⟩
abbrev S16x2048x1024 : Shape := ⟨3, ![16, 2048, 1024]⟩
abbrev S640x32768 : Shape := ⟨2, ![640, 32768]⟩
abbrev S16x2048x512 : Shape := ⟨3, ![16, 2048, 512]⟩
abbrev S512x2048 : Shape := ⟨2, ![512, 2048]⟩
abbrev S1x2048x512 : Shape := ⟨3, ![1, 2048, 512]⟩
abbrev S320x2048 : Shape := ⟨2, ![320, 2048]⟩
abbrev S1x2048x256 : Shape := ⟨3, ![1, 2048, 256]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S80x256 : Shape := ⟨2, ![80, 256]⟩
abbrev S64x256 : Shape := ⟨2, ![64, 256]⟩
abbrev S1x256x256 : Shape := ⟨3, ![1, 256, 256]⟩

abbrev nBuf : Space → Nat
  | .hbm => 4
  | .vmem => 8
  | .smem => 0
  | _ => 0

abbrev bufTy : (tb : Table) → Fin (tcTables nBuf tb) → BufTy
  | .hbm, ⟨0, _⟩ => ⟨S1024x32768, .bf16⟩
  | .hbm, ⟨1, _⟩ => ⟨S16x2048x1024, .bf16⟩
  | .hbm, ⟨2, _⟩ => ⟨S640x32768, .bf16⟩
  | .hbm, ⟨3, _⟩ => ⟨S16x2048x512, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S320x2048, .bf16⟩
  | .local _ .vmem, ⟨5, _⟩ => ⟨S320x2048, .bf16⟩
  | .local _ .vmem, ⟨6, _⟩ => ⟨S1x2048x256, .bf16⟩
  | .local _ .vmem, ⟨7, _⟩ => ⟨S1x2048x256, .bf16⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S1024x32768 : Shape := ⟨2, ![1024, 32768]⟩
abbrev S16x2048x1024 : Shape := ⟨3, ![16, 2048, 1024]⟩
abbrev S640x32768 : Shape := ⟨2, ![640, 32768]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x128x16x2048 : Shape := ⟨4, ![8, 128, 16, 2048]⟩
abbrev S16x8x2048x128 : Shape := ⟨4, ![16, 8, 2048, 128]⟩
abbrev S16x2048x8x128 : Shape := ⟨4, ![16, 2048, 8, 128]⟩
abbrev S8x80x16x2048 : Shape := ⟨4, ![8, 80, 16, 2048]⟩
abbrev S8x64x16x2048 : Shape := ⟨4, ![8, 64, 16, 2048]⟩
abbrev S16x8x2048x64 : Shape := ⟨4, ![16, 8, 2048, 64]⟩
abbrev S16x8x2048x2048 : Shape := ⟨4, ![16, 8, 2048, 2048]⟩
abbrev S_ : Shape := ⟨0, ![]⟩
abbrev S16x8x2048 : Shape := ⟨3, ![16, 8, 2048]⟩
abbrev S16x8x2048x1 : Shape := ⟨4, ![16, 8, 2048, 1]⟩
abbrev S16x2048x8x64 : Shape := ⟨4, ![16, 2048, 8, 64]⟩
abbrev S16x2048x512 : Shape := ⟨3, ![16, 2048, 512]⟩

abbrev nBuf : Space → Nat
  | .hbm => 48
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S16x2048x1024, .bf16⟩
  | .hbm, ⟨2, _⟩ => ⟨S640x32768, .bf16⟩
  | .hbm, ⟨3, _⟩ => ⟨S2048, .i32⟩
  | .hbm, ⟨4, _⟩ => ⟨S2048x1, .i32⟩
  | .hbm, ⟨5, _⟩ => ⟨S2048, .i32⟩
  | .hbm, ⟨6, _⟩ => ⟨S1x2048, .i32⟩
  | .hbm, ⟨7, _⟩ => ⟨S2048x2048, .i32⟩
  | .hbm, ⟨8, _⟩ => ⟨S2048x2048, .i32⟩
  | .hbm, ⟨9, _⟩ => ⟨S2048x2048, .i1⟩
  | .hbm, ⟨10, _⟩ => ⟨S1024x32768, .f32⟩
  | .hbm, ⟨11, _⟩ => ⟨S8x128x16x2048, .f32⟩
  | .hbm, ⟨12, _⟩ => ⟨S16x8x2048x128, .f32⟩
  | .hbm, ⟨13, _⟩ => ⟨S16x2048x1024, .f32⟩
  | .hbm, ⟨14, _⟩ => ⟨S16x2048x8x128, .f32⟩
  | .hbm, ⟨15, _⟩ => ⟨S16x8x2048x128, .f32⟩
  | .hbm, ⟨16, _⟩ => ⟨S640x32768, .f32⟩
  | .hbm, ⟨17, _⟩ => ⟨S8x80x16x2048, .f32⟩
  | .hbm, ⟨18, _⟩ => ⟨S8x64x16x2048, .f32⟩
  | .hbm, ⟨19, _⟩ => ⟨S16x8x2048x64, .f32⟩
  | .hbm, ⟨20, _⟩ => ⟨S16x8x2048x2048, .f32⟩
  | .hbm, ⟨21, _⟩ => ⟨S_, .f32⟩
  | .hbm, ⟨22, _⟩ => ⟨S_, .f32⟩
  | .hbm, ⟨23, _⟩ => ⟨S16x8x2048x2048, .f32⟩
  | .hbm, ⟨24, _⟩ => ⟨S16x8x2048x2048, .f32⟩
  | .hbm, ⟨25, _⟩ => ⟨S_, .f32⟩
  | .hbm, ⟨26, _⟩ => ⟨S_, .f32⟩
  | .hbm, ⟨27, _⟩ => ⟨S16x8x2048x2048, .i1⟩
  | .hbm, ⟨28, _⟩ => ⟨S16x8x2048x2048, .f32⟩
  | .hbm, ⟨29, _⟩ => ⟨S16x8x2048x2048, .f32⟩
  | .hbm, ⟨30, _⟩ => ⟨S_, .f32⟩
  | .hbm, ⟨31, _⟩ => ⟨S16x8x2048, .f32⟩
  | .hbm, ⟨32, _⟩ => ⟨S_, .f32⟩
  | .hbm, ⟨33, _⟩ => ⟨S16x8x2048, .f32⟩
  | .hbm, ⟨34, _⟩ => ⟨S16x8x2048, .f32⟩
  | .hbm, ⟨35, _⟩ => ⟨S16x8x2048x1, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S16x8x2048, .f32⟩
  | .hbm, ⟨41, _⟩ => ⟨S16x8x2048x1, .f32⟩
  | .hbm, ⟨42, _⟩ => ⟨S16x8x2048x2048, .f32⟩
  | .hbm, ⟨43, _⟩ => ⟨S16x8x2048x2048, .f32⟩
  | .hbm, ⟨44, _⟩ => ⟨S16x8x2048x64, .f32⟩
  | .hbm, ⟨45, _⟩ => ⟨S16x2048x8x64, .f32⟩
  | .hbm, ⟨46, _⟩ => ⟨S16x2048x512, .f32⟩
  | .hbm, ⟨47, _⟩ => ⟨S16x2048x512, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Mla.lean ====
abbrev S1024x32768 : Shape := ⟨2, ![1024, 32768]⟩
abbrev S16x2048x1024 : Shape := ⟨3, ![16, 2048, 1024]⟩
abbrev S640x32768 : Shape := ⟨2, ![640, 32768]⟩
abbrev S16x2048x512 : Shape := ⟨3, ![16, 2048, 512]⟩
abbrev S512x2048 : Shape := ⟨2, ![512, 2048]⟩
abbrev S1x2048x512 : Shape := ⟨3, ![1, 2048, 512]⟩
abbrev S320x2048 : Shape := ⟨2, ![320, 2048]⟩
abbrev S1x2048x256 : Shape := ⟨3, ![1, 2048, 256]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S80x256 : Shape := ⟨2, ![80, 256]⟩
abbrev S64x256 : Shape := ⟨2, ![64, 256]⟩
abbrev S1x256x256 : Shape := ⟨3, ![1, 256, 256]⟩

abbrev nBuf : Space → Nat
  | .hbm => 4
  | .vmem => 8
  | .smem => 0
  | _ => 0

abbrev bufTy : (tb : Table) → Fin (tcTables nBuf tb) → BufTy
  | .hbm, ⟨0, _⟩ => ⟨S1024x32768, .bf16⟩
  | .hbm, ⟨1, _⟩ => ⟨S16x2048x1024, .bf16⟩
  | .hbm, ⟨2, _⟩ => ⟨S640x32768, .bf16⟩
  | .hbm, ⟨3, _⟩ => ⟨S16x2048x512, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S320x2048, .bf16⟩
  | .local _ .vmem, ⟨5, _⟩ => ⟨S320x2048, .bf16⟩
  | .local _ .vmem, ⟨6, _⟩ => ⟨S1x2048x256, .bf16⟩
  | .local _ .vmem, ⟨7, _⟩ => ⟨S1x2048x256, .bf16⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S1024x32768 : Shape := ⟨2, ![1024, 32768]⟩
abbrev S16x2048x1024 : Shape := ⟨3, ![16, 2048, 1024]⟩
abbrev S640x32768 : Shape := ⟨2, ![640, 32768]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048 : Shape := ⟨2, ![2048, 2048]⟩
abbrev S8x128x16x2048 : Shape := ⟨4, ![8, 128, 16, 2048]⟩
abbrev S16x8x2048x128 : Shape := ⟨4, ![16, 8, 2048, 128]⟩
abbrev S16x2048x8x128 : Shape := ⟨4, ![16, 2048, 8, 128]⟩
abbrev S8x80x16x2048 : Shape := ⟨4, ![8, 80, 16, 2048]⟩
abbrev S8x64x16x2048 : Shape := ⟨4, ![8, 64, 16, 2048]⟩
abbrev S16x8x2048x64 : Shape := ⟨4, ![16, 8, 2048, 64]⟩
abbrev S16x8x2048x2048 : Shape := ⟨4, ![16, 8, 2048, 2048]⟩
abbrev S16x8x2048 : Shape := ⟨3, ![16, 8, 2048]⟩
abbrev S16x8x2048x1 : Shape := ⟨4, ![16, 8, 2048, 1]⟩
abbrev S16x2048x8x64 : Shape := ⟨4, ![16, 2048, 8, 64]⟩
abbrev S16x2048x512 : Shape := ⟨3, ![16, 2048, 512]⟩

abbrev nBuf : Space → Nat
  | .hbm => 84
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S16x2048x1024, .bf16⟩
  | .hbm, ⟨2, _⟩ => ⟨S640x32768, .bf16⟩
  | .hbm, ⟨3, _⟩ => ⟨S2048, .i32⟩
  | .hbm, ⟨4, _⟩ => ⟨S2048x1, .i32⟩
  | .hbm, ⟨5, _⟩ => ⟨S2048, .i32⟩
  | .hbm, ⟨6, _⟩ => ⟨S1x2048, .i32⟩
  | .hbm, ⟨7, _⟩ => ⟨S_, .i32⟩
  | .hbm, ⟨8, _⟩ => ⟨S_, .i32⟩
  | .hbm, ⟨9, _⟩ => ⟨S1x2048, .i32⟩
  | .hbm, ⟨10, _⟩ => ⟨S1x2048, .i32⟩
  | .hbm, ⟨11, _⟩ => ⟨S1x2048, .i32⟩
  | .hbm, ⟨12, _⟩ => ⟨S_, .i32⟩
  | .hbm, ⟨13, _⟩ => ⟨S1x2048, .i32⟩
  | .hbm, ⟨14, _⟩ => ⟨S1x2048, .i1⟩
  | .hbm, ⟨15, _⟩ => ⟨S1x2048, .i32⟩
  | .hbm, ⟨16, _⟩ => ⟨S1x2048, .i32⟩
  | .hbm, ⟨17, _⟩ => ⟨S_, .i32⟩
  | .hbm, ⟨18, _⟩ => ⟨S1x2048, .i32⟩
  | .hbm, ⟨19, _⟩ => ⟨S1x2048, .i1⟩
  | .hbm, ⟨20, _⟩ => ⟨S1x2048, .i1⟩
  | .hbm, ⟨21, _⟩ => ⟨S_, .i32⟩
  | .hbm, ⟨22, _⟩ => ⟨S1x2048, .i32⟩
  | .hbm, ⟨23, _⟩ => ⟨S1x2048, .i32⟩
  | .hbm, ⟨24, _⟩ => ⟨S1x2048, .i32⟩
  | .hbm, ⟨25, _⟩ => ⟨S_, .i32⟩
  | .hbm, ⟨26, _⟩ => ⟨S_, .i32⟩
  | .hbm, ⟨27, _⟩ => ⟨S2048x1, .i32⟩
  | .hbm, ⟨28, _⟩ => ⟨S2048x1, .i32⟩
  | .hbm, ⟨29, _⟩ => ⟨S2048x1, .i32⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S2048x1, .i32⟩
  | .hbm, ⟨34, _⟩ => ⟨S2048x1, .i32⟩
  | .hbm, ⟨35, _⟩ => ⟨S_, .i32⟩
  | .hbm, ⟨36, _⟩ => ⟨S2048x1, .i32⟩
  | .hbm, ⟨37, _⟩ => ⟨S2048x1, .i1⟩
  | .hbm, ⟨38, _⟩ => ⟨S2048x1, .i1⟩
  | .hbm, ⟨39, _⟩ => ⟨S_, .i32⟩
  | .hbm, ⟨40, _⟩ => ⟨S2048x1, .i32⟩
  | .hbm, ⟨41, _⟩ => ⟨S2048x1, .i32⟩
  | .hbm, ⟨42, _⟩ => ⟨S2048x1, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S1024x32768, .f32⟩
  | .hbm, ⟨47, _⟩ => ⟨S8x128x16x2048, .f32⟩
  | .hbm, ⟨48, _⟩ => ⟨S16x8x2048x128, .f32⟩
  | .hbm, ⟨49, _⟩ => ⟨S16x2048x1024, .f32⟩
  | .hbm, ⟨50, _⟩ => ⟨S16x2048x8x128, .f32⟩
  | .hbm, ⟨51, _⟩ => ⟨S16x8x2048x128, .f32⟩
  | .hbm, ⟨52, _⟩ => ⟨S640x32768, .f32⟩
  | .hbm, ⟨53, _⟩ => ⟨S8x80x16x2048, .f32⟩
  | .hbm, ⟨54, _⟩ => ⟨S8x64x16x2048, .f32⟩
  | .hbm, ⟨55, _⟩ => ⟨S16x8x2048x64, .f32⟩
  | .hbm, ⟨56, _⟩ => ⟨S16x8x2048x2048, .f32⟩
  | .hbm, ⟨57, _⟩ => ⟨S_, .f32⟩
  | .hbm, ⟨58, _⟩ => ⟨S_, .f32⟩
  | .hbm, ⟨59, _⟩ => ⟨S16x8x2048x2048, .f32⟩
  | .hbm, ⟨60, _⟩ => ⟨S16x8x2048x2048, .f32⟩
  | .hbm, ⟨61, _⟩ => ⟨S_, .f32⟩
  | .hbm, ⟨62, _⟩ => ⟨S_, .f32⟩
  | .hbm, ⟨63, _⟩ => ⟨S16x8x2048x2048, .i1⟩
  | .hbm, ⟨64, _⟩ => ⟨S16x8x2048x2048, .f32⟩
  | .hbm, ⟨65, _⟩ => ⟨S16x8x2048x2048, .f32⟩
  | .hbm, ⟨66, _⟩ => ⟨S_, .f32⟩
  | .hbm, ⟨67, _⟩ => ⟨S16x8x2048, .f32⟩
  | .hbm, ⟨68, _⟩ => ⟨S_, .f32⟩
  | .hbm, ⟨69, _⟩ => ⟨S16x8x2048, .f32⟩
  | .hbm, ⟨70, _⟩ => ⟨S16x8x2048, .f32⟩
  | .hbm, ⟨71, _⟩ => ⟨S16x8x2048x1, .f32⟩
  | .hbm, ⟨72, _⟩ => ⟨S16x8x2048x2048, .f32⟩
  | .hbm, ⟨73, _⟩ => ⟨S16x8x2048x2048, .f32⟩
  | .hbm, ⟨74, _⟩ => ⟨S16x8x2048x2048, .f32⟩
  | .hbm, ⟨75, _⟩ => ⟨S_, .f32⟩
  | .hbm, ⟨76, _⟩ => ⟨S16x8x2048, .f32⟩
  | .hbm, ⟨77, _⟩ => ⟨S16x8x2048x1, .f32⟩
  | .hbm, ⟨78, _⟩ => ⟨S16x8x2048x2048, .f32⟩
  | .hbm, ⟨79, _⟩ => ⟨S16x8x2048x2048, .f32⟩
  | .hbm, ⟨80, _⟩ => ⟨S16x8x2048x64, .f32⟩
  | .hbm, ⟨81, _⟩ => ⟨S16x2048x8x64, .f32⟩
  | .hbm, ⟨82, _⟩ => ⟨S16x2048x512, .f32⟩
  | .hbm, ⟨83, _⟩ => ⟨S16x2048x512, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v23 : Ref sig .tc := ⟨.hbm, 65, rfl⟩
abbrev main_cst_2 : Ref sig .tc := ⟨.hbm, 66, rfl⟩
abbrev main_v24 : Ref sig .tc := ⟨.hbm, 67, rfl⟩
abbrev main_cst_3 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩

abbrev nD : Nat := 1
abbrev τ : Topo := Topo.v7x

variable {F : FTy → Type} [FloatOps F]
-- ==== Ffn.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S2x2816x1024, .bf16⟩
  | .hbm, ⟨6, _⟩ => ⟨S2x1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Mix.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x512 : Shape := ⟨2, ![32768, 512]⟩
abbrev S1024x1024 : Shape := ⟨2, ![1024, 1024]⟩
abbrev S512x1024 : Shape := ⟨2, ![512, 1024]⟩
abbrev S2x1x1024 : Shape := ⟨3, ![2, 1, 1024]⟩
abbrev S1024x512 : Shape := ⟨2, ![1024, 512]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 14
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S32768x512, .bf16⟩
  | .hbm, ⟨5, _⟩ => ⟨S32768x512, .bf16⟩
  | .hbm, ⟨6, _⟩ => ⟨S1024x1024, .f32⟩
  | .hbm, ⟨7, _⟩ => ⟨S1024x1024, .bf16⟩
  | .hbm, ⟨8, _⟩ => ⟨S2x1024x5632, .bf16⟩
  | .hbm, ⟨9, _⟩ => ⟨S2x2816x1024, .bf16⟩
  | .hbm, ⟨10, _⟩ => ⟨S512x1024, .bf16⟩
  | .hbm, ⟨11, _⟩ => ⟨S512x1024, .bf16⟩
  | .hbm, ⟨12, _⟩ => ⟨S2x1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x512 : Shape := ⟨2, ![32768, 512]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S32768x512, .bf16⟩
  | .hbm, ⟨5, _⟩ => ⟨S32768x512, .bf16⟩
  | .hbm, ⟨6, _⟩ => ⟨S1024x1024, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S1x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024x5632, .f32⟩
  | .hbm, ⟨30, _⟩ => ⟨S1024x5632, .f32⟩
  | .hbm, ⟨31, _⟩ => ⟨S1x2816x1024, .f32⟩
  | .hbm, ⟨32, _⟩ => ⟨S2816x1024, .f32⟩
  | .hbm, ⟨33, _⟩ => ⟨S32768x5632, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S_, .f32⟩
  | .hbm, ⟨42, _⟩ => ⟨S32768x2816, .f32⟩
  | .hbm, ⟨43, _⟩ => ⟨S32768x2816, .f32⟩
  | .hbm, ⟨44, _⟩ => ⟨S32768x2816, .f32⟩
  | .hbm, ⟨45, _⟩ => ⟨S32768x2816, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Fin.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1024 : Shape := ⟨1, ![1024]⟩
abbrev S2x1x1024 : Shape := ⟨3, ![2, 1, 1024]⟩
abbrev S1x1024 : Shape := ⟨2, ![1, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S32768x1024, .bf16⟩
  | .hbm, ⟨5, _⟩ => ⟨S1024x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1024x1024, .bf16⟩
  | .hbm, ⟨10, _⟩ => ⟨S2x1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinRefIdeal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S32768x1024, .bf16⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S1x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1x1024x5632, .f32⟩
  | .hbm, ⟨29, _⟩ => ⟨S1024x5632, .f32⟩
  | .hbm, ⟨30, _⟩ => ⟨S1x2816x1024, .f32⟩
  | .hbm, ⟨31, _⟩ => ⟨S2816x1024, .f32⟩
  | .hbm, ⟨32, _⟩ => ⟨S32768x5632, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S_, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S32768x2816, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Gin.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x4112 : Shape := ⟨3, ![1, 1024, 4112]⟩
abbrev S1x4x3072 : Shape := ⟨3, ![1, 4, 3072]⟩
abbrev S1x8 : Shape := ⟨2, ![1, 8]⟩
abbrev S1x1024 : Shape := ⟨2, ![1, 1024]⟩
abbrev S1024 : Shape := ⟨1, ![1024]⟩
abbrev S1024x4112 : Shape := ⟨2, ![1024, 4112]⟩
abbrev S4x3072 : Shape := ⟨2, ![4, 3072]⟩
abbrev S8 : Shape := ⟨1, ![8]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S1024x3072 : Shape := ⟨2, ![1024, 3072]⟩
abbrev S1024x1024 : Shape := ⟨2, ![1024, 1024]⟩
abbrev S1024x4224 : Shape := ⟨2, ![1024, 4224]⟩
abbrev S112 : Shape := ⟨1, ![112]⟩
abbrev S128 : Shape := ⟨1, ![128]⟩
abbrev S1x128 : Shape := ⟨2, ![1, 128]⟩
abbrev S2x1x1024 : Shape := ⟨3, ![2, 1, 1024]⟩
abbrev S1024x32768 : Shape := ⟨2, ![1024, 32768]⟩
abbrev S16x32768 : Shape := ⟨2, ![16, 32768]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x512 : Shape := ⟨2, ![1024, 512]⟩
abbrev S16x512 : Shape := ⟨2, ![16, 512]⟩
abbrev S512x2816 : Shape := ⟨2, ![512, 2816]⟩
abbrev S8x3072 : Shape := ⟨2, ![8, 3072]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S64x8x512 : Shape := ⟨3, ![64, 8, 512]⟩
abbrev S512x512 : Shape := ⟨2, ![512, 512]⟩
abbrev S8x512 : Shape := ⟨2, ![8, 512]⟩
abbrev S1x512 : Shape := ⟨2, ![1, 512]⟩
abbrev S1x8x512 : Shape := ⟨3, ![1, 8, 512]⟩
abbrev S63x8x512 : Shape := ⟨3, ![63, 8, 512]⟩
abbrev S512x128 : Shape := ⟨2, ![512, 128]⟩
abbrev S128x512 : Shape := ⟨2, ![128, 512]⟩
abbrev S2816x1024 : Shape := ⟨2, ![2816, 1024]⟩

abbrev nBuf : Space → Nat
  | .hbm => 46
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024x4112, .f32⟩
  | .hbm, ⟨6, _⟩ => ⟨S1x4x3072, .f32⟩
  | .hbm, ⟨7, _⟩ => ⟨S1x8, .f32⟩
  | .hbm, ⟨8, _⟩ => ⟨S1x8, .f32⟩
  | .hbm, ⟨9, _⟩ => ⟨S1x1024, .f32⟩
  | .hbm, ⟨10, _⟩ => ⟨S1024, .f32⟩
  | .hbm, ⟨11, _⟩ => ⟨S1024x4112, .f32⟩
  | .hbm, ⟨12, _⟩ => ⟨S4x3072, .f32⟩
  | .hbm, ⟨13, _⟩ => ⟨S8, .f32⟩
  | .hbm, ⟨14, _⟩ => ⟨S8, .f32⟩
  | .hbm, ⟨15, _⟩ => ⟨S1024x16, .f32⟩
  | .hbm, ⟨16, _⟩ => ⟨S_, .f32⟩
  | .hbm, ⟨17, _⟩ => ⟨S1024x112, .f32⟩
  | .hbm, ⟨18, _⟩ => ⟨S1024x128, .f32⟩
  | .hbm, ⟨19, _⟩ => ⟨S1024x3072, .f32⟩
  | .hbm, ⟨20, _⟩ => ⟨S1024x1024, .f32⟩
  | .hbm, ⟨21, _⟩ => ⟨S1024x4224, .f32⟩
  | .hbm, ⟨22, _⟩ => ⟨S1024x4224, .bf16⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S112, .f32⟩
  | .hbm, ⟨27, _⟩ => ⟨S128, .f32⟩
  | .hbm, ⟨28, _⟩ => ⟨S1x128, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S112, .f32⟩
  | .hbm, ⟨33, _⟩ => ⟨S128, .f32⟩
  | .hbm, ⟨34, _⟩ => ⟨S1x128, .f32⟩
  | .hbm, ⟨35, _⟩ => ⟨S2x1024x5632, .bf16⟩
  | .hbm, ⟨36, _⟩ => ⟨S2x2816x1024, .bf16⟩
  | .hbm, ⟨37, _⟩ => ⟨S2x1x1024, .f32⟩
  | .hbm, ⟨38, _⟩ => ⟨S1x1024, .f32⟩
  | .hbm, ⟨39, _⟩ => ⟨S32768x1024, .f32⟩
  | .hbm, ⟨40, _⟩ => ⟨S32768x1024, .bf16⟩
  | .hbm, ⟨41, _⟩ => ⟨S32768x1024, .bf16⟩
  | .hbm, ⟨42, _⟩ => ⟨S1024x32768, .bf16⟩
  | .hbm, ⟨43, _⟩ => ⟨S32768x1024, .bf16⟩
  | .hbm, ⟨44, _⟩ => ⟨S32768x1024, .bf16⟩
  | .hbm, ⟨45, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x4224, .bf16⟩
  | .local _ .vmem, ⟨7, _⟩ => ⟨S4x3072, .f32⟩
  | .local _ .vmem, ⟨8, _⟩ => ⟨S1x128, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S16x512, .f32⟩
  | .local _ .vmem, ⟨23, _⟩ => ⟨S16x512, .f32⟩
  | .local _ .vmem, ⟨24, _⟩ => ⟨S512x2816, .bf16⟩
  | .local _ .vmem, ⟨25, _⟩ => ⟨S512x1024, .bf16⟩
  | .local _ .vmem, ⟨26, _⟩ => ⟨S8x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev main_v25_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4224 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== GinRefIdeal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x4112 : Shape := ⟨3, ![1, 1024, 4112]⟩
abbrev S1x4x3072 : Shape := ⟨3, ![1, 4, 3072]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024x4112, .f32⟩
  | .hbm, ⟨6, _⟩ => ⟨S1x4x3072, .f32⟩
  | .hbm, ⟨7, _⟩ => ⟨S1x8, .f32⟩
  | .hbm, ⟨8, _⟩ => ⟨S1x8, .f32⟩
  | .hbm, ⟨9, _⟩ => ⟨S1x1024, .f32⟩
  | .hbm, ⟨10, _⟩ => ⟨S1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S1x1024x5632, .f32⟩
  | .hbm, ⟨28, _⟩ => ⟨S1024x5632, .f32⟩
  | .hbm, ⟨29, _⟩ => ⟨S1x2816x1024, .f32⟩
  | .hbm, ⟨30, _⟩ => ⟨S2816x1024, .f32⟩
  | .hbm, ⟨31, _⟩ => ⟨S32768x5632, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S_, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Ain.lean ====
abbrev S32768x1024 : Shape := ⟨2, ![32768, 1024]⟩
abbrev S2x1024 : Shape := ⟨2, ![2, 1024]⟩
abbrev S1x1024x1960 : Shape := ⟨3, ![1, 1024, 1960]⟩
abbrev S1x8 : Shape := ⟨2, ![1, 8]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S128x1024 : Shape := ⟨2, ![128, 1024]⟩
abbrev S1x1024 : Shape := ⟨2, ![1, 1024]⟩
abbrev S1024 : Shape := ⟨1, ![1024]⟩
abbrev S1024x1960 : Shape := ⟨2, ![1024, 1960]⟩
abbrev S8 : Shape := ⟨1, ![8]⟩
abbrev S256 : Shape := ⟨1, ![256]⟩
abbrev S256x768 : Shape := ⟨2, ![256, 768]⟩
abbrev S128 : Shape := ⟨1, ![128]⟩
abbrev S1024x512 : Shape := ⟨2, ![1024, 512]⟩
abbrev S1024x8 : Shape := ⟨2, ![1024, 8]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x56 : Shape := ⟨2, ![1024, 56]⟩
abbrev S1024x16 : Shape := ⟨2, ![1024, 16]⟩
abbrev S1024x2048 : Shape := ⟨2, ![1024, 2048]⟩
abbrev S120 : Shape := ⟨1, ![120]⟩
abbrev S256x8x96 : Shape := ⟨3, ![256, 8, 96]⟩
abbrev S256x8x16 : Shape := ⟨3, ![256, 8, 16]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S1024x32768 : Shape := ⟨2, ![1024, 32768]⟩
abbrev S640x32768 : Shape := ⟨2, ![640, 32768]⟩
abbrev S512x1024 : Shape := ⟨2, ![512, 1024]⟩
abbrev S512x128 : Shape := ⟨2, ![512, 128]⟩
abbrev S640x512 : Shape := ⟨2, ![640, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S64x512 : Shape := ⟨2, ![64, 512]⟩
abbrev S16x512 : Shape := ⟨2, ![16, 512]⟩
abbrev S512x256 : Shape := ⟨2, ![512, 256]⟩
abbrev S512x1536 : Shape := ⟨2, ![512, 1536]⟩

abbrev nBuf : Space → Nat
  | .hbm => 102
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x1960, .f32⟩
  | .hbm, ⟨3, _⟩ => ⟨S1x8, .f32⟩
  | .hbm, ⟨4, _⟩ => ⟨S1x256, .f32⟩
  | .hbm, ⟨5, _⟩ => ⟨S1x256x768, .f32⟩
  | .hbm, ⟨6, _⟩ => ⟨S1x128, .f32⟩
  | .hbm, ⟨7, _⟩ => ⟨S1x128x1024, .f32⟩
  | .hbm, ⟨8, _⟩ => ⟨S128x1024, .bf16⟩
  | .hbm, ⟨9, _⟩ => ⟨S1x1024, .f32⟩
  | .hbm, ⟨10, _⟩ => ⟨S1024, .f32⟩
  | .hbm, ⟨11, _⟩ => ⟨S1024x1960, .f32⟩
  | .hbm, ⟨12, _⟩ => ⟨S8, .f32⟩
  | .hbm, ⟨13, _⟩ => ⟨S256, .f32⟩
  | .hbm, ⟨14, _⟩ => ⟨S256x768, .f32⟩
  | .hbm, ⟨15, _⟩ => ⟨S128, .f32⟩
  | .hbm, ⟨16, _⟩ => ⟨S128x1024, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x8, .f32⟩
  | .hbm, ⟨21, _⟩ => ⟨S1024x256, .f32⟩
  | .hbm, ⟨22, _⟩ => ⟨S1024x128, .f32⟩
  | .hbm, ⟨23, _⟩ => ⟨S1024x32, .f32⟩
  | .hbm, ⟨24, _⟩ => ⟨S_, .f32⟩
  | .hbm, ⟨25, _⟩ => ⟨S1024x56, .f32⟩
  | .hbm, ⟨26, _⟩ => ⟨S1024x16, .f32⟩
  | .hbm, ⟨27, _⟩ => ⟨S1024x16, .f32⟩
  | .hbm, ⟨28, _⟩ => ⟨S1024x128, .f32⟩
  | .hbm, ⟨29, _⟩ => ⟨S1024x2048, .f32⟩
  | .hbm, ⟨30, _⟩ => ⟨S1024x2048, .bf16⟩
  | .hbm, ⟨31, _⟩ => ⟨S_, .f32⟩
  | .hbm, ⟨32, _⟩ => ⟨S120, .f32⟩
  | .hbm, ⟨33, _⟩ => ⟨S128, .f32⟩
  | .hbm, ⟨34, _⟩ => ⟨S1x128, .f32⟩
  | .hbm, ⟨35, _⟩ => ⟨S256x8x96, .f32⟩
  | .hbm, ⟨36, _⟩ => ⟨S256x8x16, .f32⟩
  | .hbm, ⟨37, _⟩ => ⟨S256x8x16, .f32⟩
  | .hbm, ⟨38, _⟩ => ⟨S256x8x128, .f32⟩
  | .hbm, ⟨39, _⟩ => ⟨S256x1024, .f32⟩
  | .hbm, ⟨40, _⟩ => ⟨S256x1024, .bf16⟩
  | .hbm, ⟨41, _⟩ => ⟨S128x8x128, .f32⟩
  | .hbm, ⟨42, _⟩ => ⟨S128x8x64, .f32⟩
  | .hbm, ⟨43, _⟩ => ⟨S_, .f32⟩
  | .hbm, ⟨44, _⟩ => ⟨S128x8x64, .f32⟩
  | .hbm, ⟨45, _⟩ => ⟨S128x8x128, .f32⟩
  | .hbm, ⟨46, _⟩ => ⟨S128x1024, .f32⟩
  | .hbm, ⟨47, _⟩ => ⟨S128x8x64, .f32⟩
  | .hbm, ⟨48, _⟩ => ⟨S128x512, .f32⟩
  | .hbm, ⟨49, _⟩ => ⟨S128x1536, .f32⟩
  | .hbm, ⟨50, _⟩ => ⟨S128x1536, .bf16⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S2048, .i32⟩
  | .hbm, ⟨60, _⟩ => ⟨S2048, .f32⟩
  | .hbm, ⟨61, _⟩ => ⟨S2048x1, .f32⟩
  | .hbm, ⟨62, _⟩ => ⟨S1x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S_, .f32⟩
  | .hbm, ⟨69, _⟩ => ⟨S2048x64, .f32⟩
  | .hbm, ⟨70, _⟩ => ⟨S_, .f32⟩
  | .hbm, ⟨71, _⟩ => ⟨S2048x32, .f32⟩
  | .hbm, ⟨72, _⟩ => ⟨S2048x128, .f32⟩
  | .hbm, ⟨73, _⟩ => ⟨S_, .f32⟩
  | .hbm, ⟨74, _⟩ => ⟨S2048x64, .f32⟩
  | .hbm, ⟨75, _⟩ => ⟨S2048x16, .f32⟩
  | .hbm, ⟨76, _⟩ => ⟨S_, .f32⟩
  | .hbm, ⟨77, _⟩ => ⟨S2048x32, .f32⟩
  | .hbm, ⟨78, _⟩ => ⟨S2048x128, .f32⟩
  | .hbm, ⟨79, _⟩ => ⟨S_, .f32⟩
  | .hbm, ⟨80, _⟩ => ⟨S2048x64, .f32⟩
  | .hbm, ⟨81, _⟩ => ⟨S_, .f32⟩
  | .hbm, ⟨82, _⟩ => ⟨S2048x16, .f32⟩
  | .hbm, ⟨83, _⟩ => ⟨S2048x16, .f32⟩
  | .hbm, ⟨84, _⟩ => ⟨S_, .f32⟩
  | .hbm, ⟨85, _⟩ => ⟨S2048x16, .f32⟩
  | .hbm, ⟨86, _⟩ => ⟨S2048x16, .f32⟩
  | .hbm, ⟨87, _⟩ => ⟨S_, .f32⟩
  | .hbm, ⟨88, _⟩ => ⟨S2048x32, .f32⟩
  | .hbm, ⟨89, _⟩ => ⟨S2048x128, .f32⟩
  | .hbm, ⟨90, _⟩ => ⟨S_, .f32⟩
  | .hbm, ⟨91, _⟩ => ⟨S2048x128, .f32⟩
  | .hbm, ⟨92, _⟩ => ⟨S2048x128, .f32⟩
  | .hbm, ⟨93, _⟩ => ⟨S1x1024, .f32⟩
  | .hbm, ⟨94, _⟩ => ⟨S1x256, .f32⟩
  | .hbm, ⟨95, _⟩ => ⟨S1x128, .f32⟩
  | .hbm, ⟨96, _⟩ => ⟨S1024x32768, .bf16⟩
  | .hbm, ⟨97, _⟩ => ⟨S32768x1024, .bf16⟩
  | .hbm, ⟨98, _⟩ => ⟨S640x32768, .bf16⟩
  | .hbm, ⟨99, _⟩ => ⟨S1024x32768, .bf16⟩
  | .hbm, ⟨100, _⟩ => ⟨S32768x1024, .bf16⟩
  | .hbm, ⟨101, _⟩ => ⟨S640x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x128, .f32⟩
  | .local _ .vmem, ⟨5, _⟩ => ⟨S1x256, .f32⟩
  | .local _ .vmem, ⟨6, _⟩ => ⟨S256x1024, .bf16⟩
  | .local _ .vmem, ⟨7, _⟩ => ⟨S1x128, .f32⟩
  | .local _ .vmem, ⟨8, _⟩ => ⟨S128x1536, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S128x1024, .bf16⟩
  | .local _ .vmem, ⟨18, _⟩ => ⟨S1024x512, .bf16⟩
  | .local _ .vmem, ⟨19, _⟩ => ⟨S1024x512, .bf16⟩
  | .local _ .vmem, ⟨20, _⟩ => ⟨S512x1024, .bf16⟩
  | .local _ .vmem, ⟨21, _⟩ => ⟨S512x1024, .bf16⟩
  | .local _ .vmem, ⟨22, _⟩ => ⟨S640x512, .bf16⟩
  | .local _ .vmem, ⟨23, _⟩ => ⟨S640x512, .bf16⟩
  | .local _ .vmem, ⟨24, _⟩ => ⟨S1024x512, .bf16⟩
  | .local _ .vmem, ⟨25, _⟩ => ⟨S1024x512, .bf16⟩
  | .local _ .vmem, ⟨26, _⟩ => ⟨S512x1024, .bf16⟩
  | .local _ .vmem, ⟨27, _⟩ => ⟨S512x1024, .bf16⟩
  | .local _ .vmem, ⟨28, _⟩ => ⟨S640x512, .bf16⟩
  | .local _ .vmem, ⟨29, _⟩ => ⟨S640x512, .bf16⟩
  | .local _ .vmem, ⟨30, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73_0 : Ref sig .tc := ⟨.hbm, 96, rfl⟩
abbrev main_v73_1 : Ref sig .tc := ⟨.hbm, 97, rfl⟩
abbrev main_v73_2 : Ref sig .tc := ⟨.hbm, 98, rfl⟩
abbrev main_v73_3 : Ref sig .tc := ⟨.hbm, 99, rfl⟩
abbrev main_v73_4 : Ref sig .tc := ⟨.hbm, 100, rfl⟩
abbrev main_v73_5 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S640x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S640x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== AinRefIdeal.lean ====
abbrev S32768x1024 : Shape := ⟨2, ![32768, 1024]⟩
abbrev S2x1024 : Shape := ⟨2, ![2, 1024]⟩
abbrev S1x1024x1960 : Shape := ⟨3, ![1, 1024, 1960]⟩
abbrev S1x8 : Shape := ⟨2, ![1, 8]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x1960 : Shape := ⟨2, ![1024, 1960]⟩
abbrev S32768x1960 : Shape := ⟨2, ![32768, 1960]⟩
abbrev S32768x1536 : Shape := ⟨2, ![32768, 1536]⟩
abbrev S32768x512 : Shape := ⟨2, ![32768, 512]⟩
abbrev S16x2048x8x64 : Shape := ⟨4, ![16, 2048, 8, 64]⟩
abbrev S16x2048x8x3 : Shape := ⟨4, ![16, 2048, 8, 3]⟩
abbrev S16x2048x8x61 : Shape := ⟨4, ![16, 2048, 8, 61]⟩
abbrev S16x2048x8x128 : Shape := ⟨4, ![16, 2048, 8, 128]⟩
abbrev S16x2048x8x1 : Shape := ⟨4, ![16, 2048, 8, 1]⟩
abbrev S16x2048x8x15 : Shape := ⟨4, ![16, 2048, 8, 15]⟩
abbrev S16x2048x8x80 : Shape := ⟨4, ![16, 2048, 8, 80]⟩
abbrev S1024x32768 : Shape := ⟨2, ![1024, 32768]⟩
abbrev S32768x640 : Shape := ⟨2, ![32768, 640]⟩
abbrev S640x32768 : Shape := ⟨2, ![640, 32768]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x1960, .f32⟩
  | .hbm, ⟨3, _⟩ => ⟨S1x8, .f32⟩
  | .hbm, ⟨4, _⟩ => ⟨S1x256, .f32⟩
  | .hbm, ⟨5, _⟩ => ⟨S1x256x768, .f32⟩
  | .hbm, ⟨6, _⟩ => ⟨S1x128, .f32⟩
  | .hbm, ⟨7, _⟩ => ⟨S1x128x1024, .f32⟩
  | .hbm, ⟨8, _⟩ => ⟨S1x1024, .f32⟩
  | .hbm, ⟨9, _⟩ => ⟨S1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S1024x1960, .f32⟩
  | .hbm, ⟨27, _⟩ => ⟨S32768x1960, .f32⟩
  | .hbm, ⟨28, _⟩ => ⟨S32768x1536, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S16x2048x8x64, .f32⟩
  | .hbm, ⟨33, _⟩ => ⟨S_, .f32⟩
  | .hbm, ⟨34, _⟩ => ⟨S16x2048x8x64, .f32⟩
  | .hbm, ⟨35, _⟩ => ⟨S16x2048x8x64, .f32⟩
  | .hbm, ⟨36, _⟩ => ⟨S_, .f32⟩
  | .hbm, ⟨37, _⟩ => ⟨S16x2048x8x3, .f32⟩
  | .hbm, ⟨38, _⟩ => ⟨S_, .f32⟩
  | .hbm, ⟨39, _⟩ => ⟨S16x2048x8x61, .f32⟩
  | .hbm, ⟨40, _⟩ => ⟨S16x2048x8x128, .f32⟩
  | .hbm, ⟨41, _⟩ => ⟨S16x2048x8x64, .f32⟩
  | .hbm, ⟨42, _⟩ => ⟨S_, .f32⟩
  | .hbm, ⟨43, _⟩ => ⟨S16x2048x8x1, .f32⟩
  | .hbm, ⟨44, _⟩ => ⟨S_, .f32⟩
  | .hbm, ⟨45, _⟩ => ⟨S16x2048x8x15, .f32⟩
  | .hbm, ⟨46, _⟩ => ⟨S16x2048x8x80, .f32⟩
  | .hbm, ⟨47, _⟩ => ⟨S32768x1024, .f32⟩
  | .hbm, ⟨48, _⟩ => ⟨S32768x1024, .bf16⟩
  | .hbm, ⟨49, _⟩ => ⟨S1024x32768, .bf16⟩
  | .hbm, ⟨50, _⟩ => ⟨S32768x640, .f32⟩
  | .hbm, ⟨51, _⟩ => ⟨S32768x640, .bf16⟩
  | .hbm, ⟨52, _⟩ => ⟨S640x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Tile.lean ====
/- What one grid point of the attention call computes, as functions of its three blocks: the queries of four heads
   (transposed), the keys and the values (transposed, with a row of ones below the 64 value rows). A block of scores is
   256 keys by 256 queries. -/
module

public import proofs.«01_k».proof.Proof.Gen.FoxIdeal.Frame

@[expose] public section

noncomputable section

namespace Cert.Proof.Attn

open Cert.FoxIdeal Cert.FoxIdeal.Facts Cert.FoxIdeal.Facts₀ Idealize.ShloMosaic

variable {F : FTy → Type} [FloatOps F]

theorem inb_q (h i : ℕ) : ∀ a, ![128 * (h % 4), 256 * (i % 8)] a + S128x256.size a ≤ S512x2048.size a := by
  intro a
  match a with
  | ⟨0, _⟩ => show 128 * (h % 4) + 128 ≤ 512; omega
  | ⟨1, _⟩ => show 256 * (i % 8) + 256 ≤ 2048; omega

theorem inb_k (h j : ℕ) : ∀ a, ![0, 256 * (j % 8), 128 * (h % 4)] a + S1x256x128.size a ≤ S1x2048x512.size a := by
  intro a
  match a with
  | ⟨0, _⟩ => show 0 + 1 ≤ 1; omega
  | ⟨1, _⟩ => show 256 * (j % 8) + 256 ≤ 2048; omega
  | ⟨2, _⟩ => show 128 * (h % 4) + 128 ≤ 512; omega

theorem inb_v (h j : ℕ) : ∀ a, ![80 * (h % 4), 256 * (j % 8)] a + S80x256.size a ≤ S320x2048.size a := by
  intro a
  match a with
  | ⟨0, _⟩ => show 80 * (h % 4) + 80 ≤ 320; omega
  | ⟨1, _⟩ => show 256 * (j % 8) + 256 ≤ 2048; omega

/-- Query tile `i` of head `h`: 128 lanes by 256 queries. -/
def qBlk (x0 : Vec F S512x2048 .bf16) (h i : ℕ) : Vec F S128x256 .bf16 :=
  View.ld x0 (Rect.unit (s := S512x2048) ![128 * (h % 4), 256 * (i % 8)] S128x256.size (inb_q h i))

/-- Key tile `j` of head `h`: 256 keys by 128 lanes. -/
def kBlk (x1 : Vec F S1x2048x512 .bf16) (h j : ℕ) : Vec F S1x256x128 .bf16 :=
  View.ld x1 (Rect.unit (s := S1x2048x512) ![0, 256 * (j % 8), 128 * (h % 4)] S1x256x128.size (inb_k h j))

/-- Value tile `j` of head `h`: 80 rows by 256 keys. -/
def vBlk (x2 : Vec F S320x2048 .bf16) (h j : ℕ) : Vec F S80x256 .bf16 :=
  View.ld x2 (Rect.unit (s := S320x2048) ![80 * (h % 4), 256 * (j % 8)] S80x256.size (inb_v h j))

/-- The scores of a key tile against a query tile. -/
def score (k : Vec F S1x256x128 .bf16) (q : Vec F S128x256 .bf16) : FVec F S256x256 .f32 :=
  matmul dot_S256x128_S128x256_S256x256_1_0_0_1_n_n none (shapeCast S256x128 k shapeCasts_S1x256x128_S256x128) q
    (constant S256x256 .f32 0x00000000#32)

/-- The scores of tile `j` against query tile `i`, masked where the tiles are the same. -/
def scoreAt (msk : IVec S256x256 1) (neg : F .f32) (x0 : Vec F S512x2048 .bf16) (x1 : Vec F S1x2048x512 .bf16)
    (h i j : ℕ) : FVec F S256x256 .f32 :=
  if j = i then select msk (score (kBlk x1 h j) (qBlk x0 h i)) (broadcast S256x256 neg)
  else score (kBlk x1 h j) (qBlk x0 h i)

/-- The greatest score of each column. -/
def colMax (s : FVec F S256x256 .f32) : FVec F S1x256 .f32 :=
  shapeCast S1x256 (multiReduction .maximumf [0] S256 s 0xFF800000#32 reduces_S256x256_S256 (.inl rfl) rfl)
    shapeCasts_S256_S1x256

/-- Two to the power of each score less its column's greatest. -/
def wts (s : FVec F S256x256 .f32) : FVec F S256x256 .bf16 :=
  truncf .bf16 (exp2 (subf s (broadcastTo S256x256 (colMax s) broadcasts_S1x256_S256x256))) bitsLt_bf16_f32

/-- The weighted sum of a value tile. -/
def wsum (v : Vec F S80x256 .bf16) (p : FVec F S256x256 .bf16) : FVec F S80x256 .f32 :=
  matmul dot_S80x256_S256x256_S80x256_1_0_0_1_n_n none v p (constant S80x256 .f32 0x00000000#32)

/-- The greatest of the first `n + 1` column maxima. -/
def maxTo (m : ℕ → FVec F S1x256 .f32) : ℕ → FVec F S1x256 .f32
  | 0 => m 0
  | n + 1 => maximumf (maxTo m n) (m (n + 1))

/-- A tile's weighted sum, carried from its own maximum `m` to the common one `M`. -/
def rescale (M m : FVec F S1x256 .f32) (o : FVec F S80x256 .f32) : FVec F S80x256 .f32 :=
  mulf o (broadcastTo S80x256 (exp2 (subf m M)) broadcasts_S1x256_S80x256)

/-- The first `n + 1` carried sums added up. -/
def accTo (M : FVec F S1x256 .f32) (m : ℕ → FVec F S1x256 .f32) (o : ℕ → FVec F S80x256 .f32) : ℕ → FVec F S80x256 .f32
  | 0 => addf (broadcast S80x256 (Scalar.ofBits .f32 0x00000000#32)) (rescale M (m 0) (o 0))
  | n + 1 => addf (accTo M m o n) (rescale M (m (n + 1)) (o (n + 1)))

/-- The 64 value rows over the row of sums. -/
def quot (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- Head `h`'s result for query tile `i`: 64 rows by 256 queries. -/
def headOut (msk : IVec S256x256 1) (neg : F .f32) (x0 : Vec F S512x2048 .bf16) (x1 : Vec F S1x2048x512 .bf16)
    (x2 : Vec F S320x2048 .bf16) (h i : ℕ) : FVec F S64x256 .f32 :=
  quot (accTo (maxTo (fun j => colMax (scoreAt msk neg x0 x1 h i j)) i)
    (fun j => colMax (scoreAt msk neg x0 x1 h i j))
    (fun j => wsum (vBlk x2 h j) (wts (scoreAt msk neg x0 x1 h i j))) i)

/-- Query tile `i`'s result: four heads one below another, transposed. -/
def tile (msk : IVec S256x256 1) (neg : F .f32) (x0 : Vec F S512x2048 .bf16) (x1 : Vec F S1x2048x512 .bf16)
    (x2 : Vec F S320x2048 .bf16) (i : ℕ) : FVec F S1x256x256 .bf16 :=
  shapeCast S1x256x256 (truncf .bf16 (transpose S256x256 [1, 0] (concatenate S256x256 0
    [⟨S64x256, headOut msk neg x0 x1 x2 0 i⟩, ⟨S64x256, headOut msk neg x0 x1 x2 1 i⟩,
     ⟨S64x256, headOut msk neg x0 x1 x2 2 i⟩, ⟨S64x256, headOut msk neg x0 x1 x2 3 i⟩]
    concatenates_S64x256_S64x256_S64x256_S64x256_S256x256_d0) transposes_S256x256_p1_0_S256x256) bitsLt_bf16_f32)
    shapeCasts_S256x256_S1x256x256

end Cert.Proof.Attn

end
-- ==== Proof.FoxPieces.lean ====
/- The forgetting attention's eight stores are the eight query tiles of `Tile.lean`. -/
module

public import proofs.«01_k».proof.Proof.Tile

@[expose] public section

noncomputable section

namespace Cert.Proof.Fox

open Cert.FoxIdeal Cert.FoxIdeal.Gen Cert.Proof.Attn Idealize.ShloMosaic

variable {F : FTy → Type} [FloatOps F] [Named F]

/-- The word that stands for minus infinity in a masked score. -/
abbrev neg : F .f32 := Named.named κ "mask" 0xFF7F0000#32

set_option maxRecDepth 65536 in
/-- What the grid point leaves in its output block: the eight tiles, the last first. -/
theorem out_eq (x0 : Vec F S512x2048 .bf16) (x1 : Vec F S1x2048x512 .bf16) (x2 : Vec F S320x2048 .bf16) :
    out0_3 x0 x1 x2 = View.canon [⟨r0_103, tile k0_pay2 neg x0 x1 x2 7⟩, ⟨r0_93, tile k0_pay2 neg x0 x1 x2 6⟩,
      ⟨r0_80, tile k0_pay2 neg x0 x1 x2 5⟩, ⟨r0_68, tile k0_pay2 neg x0 x1 x2 4⟩, ⟨r0_56, tile k0_pay2 neg x0 x1 x2 3⟩,
      ⟨r0_44, tile k0_pay2 neg x0 x1 x2 2⟩, ⟨r0_33, tile k0_pay2 neg x0 x1 x2 1⟩, ⟨r0_23, tile k0_pay2 neg x0 x1 x2 0⟩] :=
  rfl

end Cert.Proof.Fox

end
-- ==== Proof.TileIdx.lean ====
/- The operations of a query tile read at an index, over the extended reals. -/
module

public import proofs.«01_k».proof.Proof.Tile
public import Idealize.ShloMosaic.Lib.Pointwise

@[expose] public section

noncomputable section

namespace Cert.Proof.Attn

open Cert.FoxIdeal Cert.FoxIdeal.Facts Cert.FoxIdeal.Facts₀ Idealize.ShloMosaic

/-- A score is the sum over the lanes of key times query. -/
theorem score_apply (k : Vec Ideal S1x256x128 .bf16) (q : Vec Ideal S128x256 .bf16) (r c : Fin 256) :
    score (F := Ideal) k q (ix2 r c) = ∑ d : Fin 128, k (ix3 0 r d) * q (ix2 d c) := by
  pointwise [score]

/-- A column's maximum is the greatest of its 256 entries. -/
theorem colMax_apply (s : FVec Ideal S256x256 .f32) (z : Fin 1) (c : Fin 256) :
    colMax (F := Ideal) s (ix2 z c) = (Finset.univ : Finset (Fin 256)).fold max ⊥ fun r => s (ix2 r c) := by
  pointwise [colMax]
  rw [show Ideal.ofBits FTy.f32 4286578688#32 = ⊥ by simp [Ideal.ofBits, Ideal.ieee]]

/-- A weight. -/
theorem wts_apply (s : FVec Ideal S256x256 .f32) (r c : Fin 256) :
    wts (F := Ideal) s (ix2 r c) = Ideal.exp2 (s (ix2 r c) - colMax (F := Ideal) s (ix2 0 c)) := by
  unfold wts
  generalize colMax s = M
  pointwise []
  rfl

/-- A weighted sum is the sum over the keys of value times weight. -/
theorem wsum_apply (v : Vec Ideal S80x256 .bf16) (p : FVec Ideal S256x256 .bf16) (x : Fin 80) (c : Fin 256) :
    wsum (F := Ideal) v p (ix2 x c) = ∑ r : Fin 256, v (ix2 x r) * p (ix2 r c) := by
  pointwise [wsum]

theorem rescale_apply (M m : FVec Ideal S1x256 .f32) (o : FVec Ideal S80x256 .f32) (x : Fin 80) (c : Fin 256) :
    rescale (F := Ideal) M m o (ix2 x c) = o (ix2 x c) * Ideal.exp2 (m (ix2 0 c) - M (ix2 0 c)) := by
  pointwise [rescale]
  rfl

theorem maxTo_apply (m : ℕ → FVec Ideal S1x256 .f32) (n : ℕ) (j : S1x256.Idx) :
    maxTo (F := Ideal) m (n + 1) j = max (maxTo (F := Ideal) m n j) (m (n + 1) j) := rfl

/-- The carried sums, added up. -/
theorem accTo_apply (M : FVec Ideal S1x256 .f32) (m : ℕ → FVec Ideal S1x256 .f32) (o : ℕ → FVec Ideal S80x256 .f32)
    (n : ℕ) (x : Fin 80) (c : Fin 256) :
    accTo (F := Ideal) M m o n (ix2 x c)
      = ∑ j ∈ Finset.range (n + 1), o j (ix2 x c) * Ideal.exp2 (m j (ix2 0 c) - M (ix2 0 c)) := by
  induction n with
  | zero =>
    rw [Finset.sum_range_one, ← rescale_apply]
    show Ideal.ofBits .f32 0x00000000#32 + _ = _
    simp
  | succ n ih =>
    rw [Finset.sum_range_succ, ← ih, ← rescale_apply]
    rfl

theorem quot_apply (a : FVec Ideal S80x256 .f32) (x : Fin 64) (c : Fin 256) :
    quot (F := Ideal) a (ix2 x c)
      = Ideal.div (a (ix2 ⟨x.val, by omega⟩ c)) (a (ix2 ⟨64, by omega⟩ c)) := by
  pointwise [quot]

end Cert.Proof.Attn

end
-- ==== Proof.Softmax.lean ====
/- Softmax weights over the extended reals, computed block by block or at once: both are the quotients of powers of two
   that `out` states. -/
module

public import Idealize.ShloMosaic.PureOps.Ideal

@[expose] public section

noncomputable section

namespace Cert.Proof.Softmax

open Idealize.ShloMosaic

variable {n : ℕ} (A : Fin n → Prop) [DecidablePred A] (S : Fin n → ℝ)

/-- The power of two of an allowed score, zero elsewhere. -/
def pw (s : Fin n) : ℝ := if A s then (2 : ℝ) ^ S s else 0

/-- The sum of the powers. -/
def tot : ℝ := ∑ s, pw A S s

/-- The softmax-weighted sum of the values. -/
def out (v : Fin n → EReal) : EReal := ∑ s, v s * ((pw A S s / tot A S : ℝ) : EReal)

/-- A score, minus infinity where it is masked. -/
def msc (s : Fin n) : EReal := if A s then (S s : EReal) else ⊥

theorem pw_nonneg (s : Fin n) : 0 ≤ pw A S s := by
  unfold pw
  split
  · positivity
  · exact le_rfl

theorem tot_pos (s : Fin n) (h : A s) : 0 < tot A S := by
  refine Finset.sum_pos' (fun s _ => pw_nonneg A S s) ⟨s, Finset.mem_univ s, ?_⟩
  unfold pw
  rw [if_pos h]
  positivity

theorem msc_ne_top (s : Fin n) : msc A S s ≠ ⊤ := by
  unfold msc
  split
  · exact EReal.coe_ne_top _
  · exact bot_ne_top

theorem msc_ne_bot (s : Fin n) (h : A s) : msc A S s ≠ ⊥ := by
  unfold msc
  rw [if_pos h]
  exact EReal.coe_ne_bot _

/-- The greatest of finitely many numbers, none of them plus infinity and one of them finite, is finite. -/
theorem fold_max_real {ι : Type} [Fintype ι] (f : ι → EReal) (h : ∀ i, f i ≠ ⊤) (i : ι) (h0 : f i ≠ ⊥) :
    ∃ r : ℝ, (Finset.univ : Finset ι).fold max ⊥ f = r := by
  have ht : (Finset.univ : Finset ι).fold max ⊥ f < ⊤ :=
    (Finset.fold_max_lt ⊤).2 ⟨bot_lt_top, fun i _ => lt_top_iff_ne_top.2 (h i)⟩
  have hb : ⊥ < (Finset.univ : Finset ι).fold max ⊥ f :=
    (Finset.lt_fold_max ⊥).2 (.inr ⟨i, Finset.mem_univ i, bot_lt_iff_ne_bot.2 h0⟩)
  exact ⟨_, (EReal.coe_toReal ht.ne hb.ne').symm⟩

theorem exp2_msc (s : Fin n) (m : ℝ) : Ideal.exp2 (msc A S s - m) = ((pw A S s * (2 : ℝ) ^ (-m) : ℝ) : EReal) := by
  unfold msc pw
  split
  · rw [← EReal.coe_sub, Ideal.exp2_coe]
    show (((2 : ℝ) ^ (S s - m) : ℝ) : EReal) = _
    rw [sub_eq_add_neg, Real.rpow_add two_pos]
  · rw [show (⊥ : EReal) - (m : EReal) = ⊥ from rfl, Ideal.exp2_bot, zero_mul]
    rfl

theorem exp_msc (s : Fin n) (m : ℝ) :
    Ideal.exp ((if A s then ((S s * Real.log 2 : ℝ) : EReal) else ⊥) - m)
      = ((pw A S s * Real.exp (-m) : ℝ) : EReal) := by
  unfold pw
  split
  · rw [← EReal.coe_sub, Ideal.exp_coe, sub_eq_add_neg, Real.exp_add, Real.rpow_def_of_pos two_pos, mul_comm (S s)]
  · rw [show (⊥ : EReal) - (m : EReal) = ⊥ from rfl, Ideal.exp_bot, zero_mul]
    rfl

/-- A finite nonnegative factor distributes over a sum, whatever the terms are. -/
theorem sum_mul_coe {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The weights carried to a common maximum `M`, summed against the values and divided by their own sum. -/
theorem quotient_eq (v : Fin n → EReal) (M : ℝ) (hM : 0 < M) (s : Fin n) (h : A s) :
    Ideal.div (∑ s, v s * ((pw A S s * M : ℝ) : EReal)) (∑ s, 1 * ((pw A S s * M : ℝ) : EReal)) = out A S v := by
  have ht := tot_pos A S s h
  simp only [one_mul]
  rw [coe_sum, ← Finset.sum_mul, show ∑ s, pw A S s = tot A S from rfl, Ideal.div_coe (mul_pos ht hM).ne',
    sum_mul_coe _ _ _ (one_div_nonneg.2 (mul_pos ht hM).le)]
  refine Finset.sum_congr rfl fun s _ => ?_
  rw [mul_assoc, ← EReal.coe_mul]
  congr 2
  show pw A S s * M * (1 / (tot A S * M)) = pw A S s / tot A S
  field_simp

/-- The plain softmax: each weight divided by the sum first. -/
theorem softmax_eq (v : Fin n → EReal) (M : ℝ) (hM : 0 < M) (s : Fin n) (h : A s) :
    ∑ s, Ideal.div ((pw A S s * M : ℝ) : EReal) (0 + ∑ s, ((pw A S s * M : ℝ) : EReal)) * v s = out A S v := by
  have ht := tot_pos A S s h
  rw [coe_sum, ← Finset.sum_mul, zero_add, show ∑ s, pw A S s = tot A S from rfl]
  refine Finset.sum_congr rfl fun s _ => ?_
  rw [Ideal.div_coe (mul_pos ht hM).ne', ← EReal.coe_mul, mul_comm]
  congr 2
  show pw A S s * M * (1 / (tot A S * M)) = pw A S s / tot A S
  field_simp

/-- Key `r` of key tile `j`. -/
def at8 (j : ℕ) (r : Fin 256) : Fin 2048 := ⟨256 * (j % 8) + r.val, by omega⟩

/-- A sum over 2048 keys, tile by tile. -/
theorem sum_tiles (f : Fin 2048 → EReal) : ∑ s, f s = ∑ j ∈ Finset.range 8, ∑ r : Fin 256, f (at8 j r) := by
  rw [← (finProdFinEquiv (m := 8) (n := 256)).sum_comp, Fintype.sum_prod_type, Finset.sum_range]
  refine Finset.sum_congr rfl fun j _ => Finset.sum_congr rfl fun r _ => congrArg f (Fin.ext ?_)
  show r.val + 256 * j.val = 256 * (j.val % 8) + r.val
  have := j.isLt
  omega

/-- The tiles up to the last allowed one, each with its own maximum `μ j`, carried to the common maximum `M`. -/
theorem tiles_eq (A : Fin 2048 → Prop) [DecidablePred A] (S : Fin 2048 → ℝ) (v : Fin 2048 → EReal) (μ : ℕ → ℝ) (M : ℝ)
    (N : ℕ) (hN : N ≤ 8) (hA : ∀ s : Fin 2048, A s → s.val < 256 * N) :
    ∑ j ∈ Finset.range N, (∑ r : Fin 256, v (at8 j r) * Ideal.exp2 (msc A S (at8 j r) - μ j)) * Ideal.exp2 (μ j - M)
      = ∑ s, v s * ((pw A S s * (2 : ℝ) ^ (-M) : ℝ) : EReal) := by
  rw [sum_tiles, ← Finset.sum_subset (Finset.range_subset_range.2 hN)]
  · refine Finset.sum_congr rfl fun j _ => ?_
    rw [← EReal.coe_sub, Ideal.exp2_coe, Real.rpow_eq_pow, sum_mul_coe _ _ _ (Real.rpow_nonneg two_pos.le _)]
    refine Finset.sum_congr rfl fun r _ => ?_
    rw [exp2_msc, mul_assoc, ← EReal.coe_mul]
    congr 2
    show pw A S (at8 j r) * (2 : ℝ) ^ (-μ j) * (2 : ℝ) ^ (μ j - M) = _
    rw [mul_assoc, ← Real.rpow_add two_pos]
    congr 2
    ring
  · intro j hj hj'
    refine Finset.sum_eq_zero fun r _ => ?_
    have h : ¬ A (at8 j r) := fun h => by
      have := hA _ h
      simp only [at8, Finset.mem_range] at this hj hj'
      omega
    simp [pw, h]

end Cert.Proof.Softmax

end
-- ==== Proof.TileValue.lean ====
/- A query tile's result is the softmax-weighted sum of the values. -/
module

public import proofs.«01_k».proof.Proof.TileIdx
public import proofs.«01_k».proof.Proof.Softmax

@[expose] public section

noncomputable section

namespace Cert.Proof.Attn

open Cert.FoxIdeal Cert.Proof.Softmax Idealize.ShloMosaic

/-- The greatest of the first `n + 1` maxima is finite where each of them is. -/
theorem maxTo_real (m : ℕ → FVec Ideal S1x256 .f32) (y : S1x256.Idx) (n : ℕ)
    (h : ∀ j ≤ n, ∃ r : ℝ, m j y = r) : ∃ r : ℝ, maxTo (F := Ideal) m n y = r := by
  induction n with
  | zero => exact h 0 le_rfl
  | succ n ih =>
    obtain ⟨a, ha⟩ := ih fun j hj => h j (by omega)
    obtain ⟨b, hb⟩ := h (n + 1) le_rfl
    exact ⟨max a b, by rw [maxTo_apply, ha, hb]; exact (EReal.coe_strictMono.monotone.map_max).symm⟩

/-- Query `c` of query tile `i` of head `h`, at value row `x`: where the scores of the key tiles up to `i` are `S`,
    minus infinity outside the allowed keys `A`, every one of those tiles has an allowed key, and value row 64 is ones,
    the result is the softmax-weighted sum of the values `V`. -/
theorem headOut_eq (msk : IVec S256x256 1) (neg : Ideal .f32) (x0 : Vec Ideal S512x2048 .bf16)
    (x1 : Vec Ideal S1x2048x512 .bf16) (x2 : Vec Ideal S320x2048 .bf16) (h i : ℕ) (hi : i < 8) (x : Fin 64) (c : Fin 256)
    (A : Fin 2048 → Prop) [DecidablePred A] (S : Fin 2048 → ℝ) (V : Fin 2048 → EReal)
    (hS : ∀ j ≤ i, ∀ r, scoreAt (F := Ideal) msk neg x0 x1 h i j (ix2 r c) = msc A S (at8 j r))
    (hA : ∀ s : Fin 2048, A s → s.val < 256 * (i + 1)) (hne : ∀ j ≤ i, ∃ r, A (at8 j r))
    (hV : ∀ j ≤ i, ∀ r, vBlk (F := Ideal) x2 h j (ix2 ⟨x.val, by omega⟩ r) = V (at8 j r))
    (h1 : ∀ j ≤ i, ∀ r, vBlk (F := Ideal) x2 h j (ix2 ⟨64, by omega⟩ r) = (1 : EReal)) :
    headOut (F := Ideal) msk neg x0 x1 x2 h i (ix2 x c) = out A S V := by
  have hm : ∀ j, ∃ r : ℝ, j ≤ i → colMax (F := Ideal) (scoreAt msk neg x0 x1 h i j) (ix2 0 c) = r := fun j => by
    by_cases hj : j ≤ i
    · obtain ⟨r0, hr0⟩ := hne j hj
      obtain ⟨r, hr⟩ := fold_max_real (fun r => scoreAt (F := Ideal) msk neg x0 x1 h i j (ix2 r c))
        (fun r => by rw [hS j hj]; exact msc_ne_top A S _) r0 (by rw [hS j hj]; exact msc_ne_bot A S _ hr0)
      exact ⟨r, fun _ => by rw [colMax_apply, hr]⟩
    · exact ⟨0, fun h => absurd h hj⟩
  choose μ hμ using hm
  obtain ⟨M, hM⟩ := maxTo_real (fun j => colMax (F := Ideal) (scoreAt msk neg x0 x1 h i j)) (ix2 0 c) i
    fun j hj => ⟨μ j, hμ j hj⟩
  obtain ⟨r0, hr0⟩ := hne 0 (by omega)
  have key : ∀ (y : Fin 80) (W : Fin 2048 → EReal), (∀ j ≤ i, ∀ r, vBlk (F := Ideal) x2 h j (ix2 y r) = W (at8 j r)) →
      accTo (F := Ideal) (maxTo (fun j => colMax (scoreAt msk neg x0 x1 h i j)) i)
        (fun j => colMax (scoreAt msk neg x0 x1 h i j))
        (fun j => wsum (vBlk x2 h j) (wts (scoreAt msk neg x0 x1 h i j))) i (ix2 y c)
      = ∑ s, W s * ((pw A S s * (2 : ℝ) ^ (-M) : ℝ) : EReal) := fun y W hW => by
    rw [accTo_apply, ← tiles_eq A S W μ M (i + 1) (by omega) hA]
    refine Finset.sum_congr rfl fun j hj => ?_
    have hj : j ≤ i := by
      have := Finset.mem_range.1 hj
      omega
    rw [hM, hμ j hj, wsum_apply]
    refine congrArg (· * _) (Finset.sum_congr rfl fun r _ => ?_)
    rw [wts_apply, hμ j hj, hS j hj, hW j hj]
  unfold headOut
  rw [quot_apply, key _ V hV, key _ (fun _ => 1) h1]
  exact quotient_eq A S V _ (Real.rpow_pos_of_pos two_pos _) _ hr0

end Cert.Proof.Attn

end
-- ==== Proof.TileRead.lean ====
/- A grid point's output block read at an index, and the attention of whole arrays that it is a part of. -/
module

public import proofs.«01_k».proof.Proof.TileValue
public import Idealize.ShloMosaic.Lib.Pipeline.Value

@[expose] public section

noncomputable section

namespace Cert.Proof.Attn

open Cert.FoxIdeal Cert.FoxIdeal.Facts Cert.FoxIdeal.Facts₀ Cert.Proof.Softmax Idealize.ShloMosaic

section
variable (msk : IVec S256x256 1) (neg : Ideal .f32) (x0 : Vec Ideal S512x2048 .bf16) (x1 : Vec Ideal S1x2048x512 .bf16)
  (x2 : Vec Ideal S320x2048 .bf16)

/-- A change of format changes nothing. -/
theorem truncf_ideal {s : Shape} (a : FVec Ideal s .f32) (h : FTy.bf16.bits < FTy.f32.bits) :
    truncf .bf16 a h = (a : s.Idx → EReal) := rfl

/-- What a grid point leaves at an index of its output block. -/
def pointOut (y : S1x2048x256.Idx) : EReal :=
  headOut (F := Ideal) msk neg x0 x1 x2 ((y 2).val / 64) ((y 1).val / 256)
    (ix2 ⟨(y 2).val % 64, Nat.mod_lt _ (by omega)⟩ ⟨(y 1).val % 256, Nat.mod_lt _ (by omega)⟩)

/-- Query tile `i` at query `x 1` and column `x 2`: head `x 2 / 64`, value row `x 2 % 64`. -/
theorem tile_apply (i : ℕ) (x : S1x256x256.Idx) :
    tile (F := Ideal) msk neg x0 x1 x2 i x
      = headOut (F := Ideal) msk neg x0 x1 x2 ((x 2).val / 64) i
          (ix2 ⟨(x 2).val % 64, Nat.mod_lt _ (by omega)⟩ ⟨(x 1).val, (x 1).isLt⟩) := by
  have h0 : (x 0).val < 1 := (x 0).isLt
  have h2 : (x 2).val < 256 := (x 2).isLt
  unfold tile
  refine (shapeCast_apply _ _ x (ix2 ⟨(x 1).val, (x 1).isLt⟩ ⟨(x 2).val, (x 2).isLt⟩) ?_).trans ?_
  · rw [Shape.rowMajor_val_two, Shape.rowMajor_val_three]
    show (x 1).val * 256 + (x 2).val = ((x 0).val * 256 + (x 1).val) * 256 + (x 2).val
    omega
  rw [truncf_ideal]
  refine (transpose_apply [1, 0] _ _ _ (ix2 ⟨(x 2).val, (x 2).isLt⟩ ⟨(x 1).val, (x 1).isLt⟩) (fun b => match b with
    | ⟨0, _⟩ => rfl
    | ⟨1, _⟩ => rfl)).trans ?_
  exact concatenate_ofFn_apply (t := S256x256) (s₁ := S64x256) 0
    (fun n : Fin 4 => headOut (F := Ideal) msk neg x0 x1 x2 n.val i) _ rfl 64 rfl _
    ⟨(x 2).val / 64, by omega⟩ rfl (ix2 ⟨(x 2).val % 64, Nat.mod_lt _ (by omega)⟩ ⟨(x 1).val, (x 1).isLt⟩) rfl
    (fun b hb => match b with
      | ⟨0, _⟩ => absurd rfl hb
      | ⟨1, _⟩ => rfl)

/-- A tile is the part of `pointOut` at its rows. -/
theorem tile_eq_pointOut (i : ℕ) (x : S1x256x256.Idx) (y : S1x2048x256.Idx) (h1 : (y 1).val = 256 * i + (x 1).val)
    (h2 : (y 2).val = (x 2).val) : tile (F := Ideal) msk neg x0 x1 x2 i x = pointOut msk neg x0 x1 x2 y := by
  have hx : (x 1).val < 256 := (x 1).isLt
  rw [tile_apply]
  unfold pointOut
  have e1 : (y 1).val / 256 = i := by omega
  have e2 : (y 1).val % 256 = (x 1).val := by omega
  simp only [e1, e2, h2]

/-- Entries at equal coordinates are equal. -/
theorem at2 {m n : ℕ} (f : Shape.Idx ⟨2, ![m, n]⟩ → EReal) {a a' : Fin m} {c c' : Fin n} (ha : a.val = a'.val)
    (hc : c.val = c'.val) : f (ix2 a c) = f (ix2 a' c') := by
  rw [Fin.ext ha, Fin.ext hc]

theorem at3 {l m n : ℕ} (f : Shape.Idx ⟨3, ![l, m, n]⟩ → EReal) {z z' : Fin l} {a a' : Fin m} {c c' : Fin n}
    (hz : z.val = z'.val) (ha : a.val = a'.val) (hc : c.val = c'.val) : f (ix3 z a c) = f (ix3 z' a' c') := by
  rw [Fin.ext hz, Fin.ext ha, Fin.ext hc]

theorem qBlk_apply (h i : ℕ) (d : Fin 128) (c : Fin 256) :
    qBlk (F := Ideal) x0 h i (ix2 d c) = x0 (ix2 ⟨128 * (h % 4) + d.val, by omega⟩ ⟨256 * (i % 8) + c.val, by omega⟩) :=
  congrArg x0 (funext fun a => Fin.ext (match a with
    | ⟨0, _⟩ => congrArg (128 * (h % 4) + ·) (Nat.one_mul d.val)
    | ⟨1, _⟩ => congrArg (256 * (i % 8) + ·) (Nat.one_mul c.val)))

theorem kBlk_apply (h j : ℕ) (r : Fin 256) (d : Fin 128) :
    kBlk (F := Ideal) x1 h j (ix3 0 r d)
      = x1 (ix3 0 ⟨256 * (j % 8) + r.val, by omega⟩ ⟨128 * (h % 4) + d.val, by omega⟩) :=
  congrArg x1 (funext fun a => Fin.ext (match a with
    | ⟨0, _⟩ => rfl
    | ⟨1, _⟩ => congrArg (256 * (j % 8) + ·) (Nat.one_mul r.val)
    | ⟨2, _⟩ => congrArg (128 * (h % 4) + ·) (Nat.one_mul d.val)))

theorem vBlk_apply (h j : ℕ) (x : Fin 80) (r : Fin 256) :
    vBlk (F := Ideal) x2 h j (ix2 x r) = x2 (ix2 ⟨80 * (h % 4) + x.val, by omega⟩ ⟨256 * (j % 8) + r.val, by omega⟩) :=
  congrArg x2 (funext fun a => Fin.ext (match a with
    | ⟨0, _⟩ => congrArg (80 * (h % 4) + ·) (Nat.one_mul x.val)
    | ⟨1, _⟩ => congrArg (256 * (j % 8) + ·) (Nat.one_mul r.val)))

end

/-! ## The attention of whole arrays -/

variable (q : Vec Ideal S1024x32768 .bf16) (k : Vec Ideal S16x2048x1024 .bf16) (v : Vec Ideal S640x32768 .bf16)

/-- Lane `d` of the query of head `H` at token `t` of sequence `b`. -/
def qAt (b : Fin 16) (H : Fin 8) (t : Fin 2048) (d : Fin 128) : EReal :=
  q (ix2 ⟨128 * H.val + d.val, by omega⟩ ⟨2048 * b.val + t.val, by omega⟩)

/-- Lane `d` of the key of head `H` at token `s` of sequence `b`. -/
def kAt (b : Fin 16) (H : Fin 8) (s : Fin 2048) (d : Fin 128) : EReal := k (ix3 b s ⟨128 * H.val + d.val, by omega⟩)

/-- Row `x` of the values of head `H` at token `s` of sequence `b`. -/
def vAt (b : Fin 16) (H : Fin 8) (x : Fin 80) (s : Fin 2048) : EReal :=
  v (ix2 ⟨80 * H.val + x.val, by omega⟩ ⟨2048 * b.val + s.val, by omega⟩)

/-- The score of key `s` for query `t`, as a real number. -/
def sc (b : Fin 16) (H : Fin 8) (t s : Fin 2048) : ℝ := ∑ d, (kAt k b H s d).toReal * (qAt q b H t d).toReal

/-- Masked softmax attention: `A t s` says that query `t` may attend to key `s`. -/
def att (A : Fin 2048 → Fin 2048 → Prop) [∀ t, DecidablePred (A t)] (b : Fin 16) (H : Fin 8) (t : Fin 2048)
    (x : Fin 80) : EReal := out (A t) (sc q k b H t) (vAt v b H x)

/-- Finite queries and keys: the sum over the lanes is a real number. -/
theorem sc_eq (b : Fin 16) (H : Fin 8) (t s : Fin 2048) (hq : ∀ y, ∃ r : ℝ, q y = (r : EReal))
    (hk : ∀ y, ∃ r : ℝ, k y = (r : EReal)) : ∑ d, kAt k b H s d * qAt q b H t d = (sc q k b H t s : EReal) := by
  unfold sc
  rw [← coe_sum]
  refine Finset.sum_congr rfl fun d _ => ?_
  obtain ⟨a, ha⟩ : ∃ r : ℝ, qAt q b H t d = r := hq _
  obtain ⟨c, hc⟩ : ∃ r : ℝ, kAt k b H s d = r := hk _
  rw [ha, hc, EReal.toReal_coe, EReal.toReal_coe, EReal.coe_mul]

/-- What a grid point leaves in its output block is the attention of the whole arrays, where its three blocks are the
    parts of the arrays at sequence `b` and heads `4 g` to `4 g + 3`. -/
theorem pointOut_eq (A : Fin 2048 → Fin 2048 → Prop) [∀ t, DecidablePred (A t)] (msk : IVec S256x256 1)
    (x0 : Vec Ideal S512x2048 .bf16) (x1 : Vec Ideal S1x2048x512 .bf16) (x2 : Vec Ideal S320x2048 .bf16)
    (b : Fin 16) (g : Fin 2)
    (e0 : ∀ (a : Fin 512) (t : Fin 2048), x0 (ix2 a t) = q (ix2 ⟨512 * g.val + a.val, by omega⟩ ⟨2048 * b.val + t.val, by omega⟩))
    (e1 : ∀ (t : Fin 2048) (a : Fin 512), x1 (ix3 0 t a) = k (ix3 b t ⟨512 * g.val + a.val, by omega⟩))
    (e2 : ∀ (a : Fin 320) (t : Fin 2048), x2 (ix2 a t) = v (ix2 ⟨320 * g.val + a.val, by omega⟩ ⟨2048 * b.val + t.val, by omega⟩))
    (hq : ∀ y, ∃ r : ℝ, q y = (r : EReal)) (hk : ∀ y, ∃ r : ℝ, k y = (r : EReal))
    (h1 : ∀ H s, vAt v b H ⟨64, by omega⟩ s = 1)
    (hmsk : ∀ (i : ℕ) (r c : Fin 256), msk (ix2 r c) = if A (at8 i c) (at8 i r) then 1#1 else 0#1)
    (hlt : ∀ t s : Fin 2048, s.val / 256 < t.val / 256 → A t s) (hgt : ∀ t s : Fin 2048, t.val / 256 < s.val / 256 → ¬ A t s)
    (hself : ∀ t, A t t) (y : S1x2048x256.Idx) (H : Fin 8) (hH : H.val = 4 * g.val + (y 2).val / 64) :
    pointOut msk ⊥ x0 x1 x2 y = att q k v A b H ⟨(y 1).val, (y 1).isLt⟩ ⟨(y 2).val % 64, by omega⟩ := by
  have hy1 : (y 1).val < 2048 := (y 1).isLt
  have hy2 : (y 2).val < 256 := (y 2).isLt
  have ht : at8 ((y 1).val / 256) ⟨(y 1).val % 256, Nat.mod_lt _ (by omega)⟩ = ⟨(y 1).val, (y 1).isLt⟩ :=
    Fin.ext (by show 256 * ((y 1).val / 256 % 8) + (y 1).val % 256 = (y 1).val; omega)
  unfold pointOut att
  refine headOut_eq msk ⊥ x0 x1 x2 _ _ (by omega) _ _ _ _ _ ?_ ?_ ?_ ?_ ?_
  · intro j hj r
    have hs : score (F := Ideal) (kBlk x1 ((y 2).val / 64) j) (qBlk x0 ((y 2).val / 64) ((y 1).val / 256))
        (ix2 r ⟨(y 1).val % 256, Nat.mod_lt _ (by omega)⟩) = (sc q k b H ⟨(y 1).val, (y 1).isLt⟩ (at8 j r) : EReal) := by
      rw [score_apply, ← sc_eq q k b H _ _ hq hk]
      refine Finset.sum_congr rfl fun d _ => ?_
      rw [kBlk_apply, qBlk_apply, e0, e1]
      unfold kAt qAt at8
      refine congrArg₂ (· * ·) (at3 k rfl rfl ?_) (at2 q ?_ ?_)
      · show 512 * g.val + (128 * ((y 2).val / 64 % 4) + d.val) = 128 * H.val + d.val
        omega
      · show 512 * g.val + (128 * ((y 2).val / 64 % 4) + d.val) = 128 * H.val + d.val
        omega
      · show 2048 * b.val + (256 * ((y 1).val / 256 % 8) + (y 1).val % 256) = 2048 * b.val + (y 1).val
        omega
    unfold scoreAt msc
    split
    · next hji =>
      subst hji
      have := hmsk ((y 1).val / 256) r ⟨(y 1).val % 256, Nat.mod_lt _ (by omega)⟩
      rw [ht] at this
      show Scalar.select (msk (ix2 r _)) _ _ = _
      rw [this, hs]
      split
      · rfl
      · rfl
    · next hji =>
      rw [if_pos (hlt _ _ (by show (256 * (j % 8) + r.val) / 256 < (y 1).val / 256; omega)), hs]
  · intro s hs
    by_contra hcon
    exact hgt _ s (by show (y 1).val / 256 < s.val / 256; omega) hs
  · intro j hj
    by_cases hji : j = (y 1).val / 256
    · exact ⟨⟨(y 1).val % 256, Nat.mod_lt _ (by omega)⟩, by rw [hji, ht]; exact hself _⟩
    · exact ⟨0, hlt _ _ (by show (256 * (j % 8) + 0) / 256 < (y 1).val / 256; omega)⟩
  · intro j hj r
    rw [vBlk_apply, e2]
    unfold vAt at8
    refine at2 v ?_ rfl
    show 320 * g.val + (80 * ((y 2).val / 64 % 4) + (y 2).val % 64) = 80 * H.val + (y 2).val % 64
    omega
  · intro j hj r
    rw [vBlk_apply, e2, ← h1 H (at8 j r)]
    unfold vAt at8
    refine at2 v ?_ rfl
    show 320 * g.val + (80 * ((y 2).val / 64 % 4) + 64) = 80 * H.val + 64
    omega

/-- The attention of whole arrays as the layer lays it out: token, then head and value row. -/
def attArr (A : Fin 2048 → Fin 2048 → Prop) [∀ t, DecidablePred (A t)] (y : S16x2048x512.Idx) : EReal :=
  att q k v A ⟨(y 0).val, (y 0).isLt⟩ ⟨(y 2).val / 64, Nat.div_lt_of_lt_mul (y 2).isLt⟩ ⟨(y 1).val, (y 1).isLt⟩
    ⟨(y 2).val % 64, by omega⟩

end Cert.Proof.Attn

end
-- ==== Proof.Ints.lean ====
/- Comparisons of small 32-bit integers. -/
module

public import Idealize.ShloMosaic.Lib.Affine

@[expose] public section

namespace Cert.Proof.Ints

open Idealize.ShloMosaic

/-- A small natural number, read back as a signed integer. -/
theorem toInt_ofNat (a : ℕ) (h : a < 2048) : (BitVec.ofNat 32 a).toInt = a := by
  rw [BitVec.toInt_eq_toNat_of_lt (by rw [BitVec.toNat_ofNat]; omega), BitVec.toNat_ofNat]
  omega

/-- The signed comparison of small natural numbers. -/
theorem sle_ofNat (a b : ℕ) (ha : a < 2048) (hb : b < 2048) :
    IntOp.cmpi .sle (BitVec.ofNat 32 a) (BitVec.ofNat 32 b) = if a ≤ b then 1#1 else 0#1 := by
  show BitVec.ofBool (BitVec.sle (BitVec.ofNat 32 a) (BitVec.ofNat 32 b)) = _
  rw [BitVec.sle_eq_decide, toInt_ofNat a ha, toInt_ofNat b hb]
  by_cases h : a ≤ b
  · rw [if_pos h, decide_eq_true (Int.ofNat_le.2 h)]
    rfl
  · rw [if_neg h, decide_eq_false (fun e => h (Int.ofNat_le.1 e))]
    rfl

end Cert.Proof.Ints
-- ==== Proof.FoxValue.lean ====
/- The forgetting attention's result array after the kernel's run. -/
module

public import proofs.«01_k».proof.Proof.FoxPieces
public import proofs.«01_k».proof.Proof.TileRead
public import proofs.«01_k».proof.Proof.Ints
public import proofs.«01_k».proof.Proof.Gen.FoxIdeal.Value
public import Idealize.ShloMosaic.Lib.Pipeline.ValueKit

@[expose] public section

set_option maxRecDepth 16384

noncomputable section

namespace Cert.Proof.Fox

open Cert.FoxIdeal Cert.FoxIdeal.Gen Cert.Proof.Attn Cert.Proof.Softmax Idealize.ShloMosaic Idealize.ShloMosaic.TcCoe Idealize.SL.Sem
open Idealize.ShloMosaic.Pipeline (Dat)

/-- A grid point's output block, read at an index. -/
theorem out_apply (x0 : Vec Ideal S512x2048 .bf16) (x1 : Vec Ideal S1x2048x512 .bf16) (x2 : Vec Ideal S320x2048 .bf16)
    (y : S1x2048x256.Idx) : out0_3 (F := Ideal) x0 x1 x2 y = pointOut k0_pay2 ⊥ x0 x1 x2 y := by
  rw [out_eq]
  refine View.canon_apply_of_pieces (Val := Elt Ideal) (e := .bf16) (pointOut k0_pay2 ⊥ x0 x1 x2) _ (fun p hp j => ?_) y (cover0_3 _ _ _ _ _ _ _ _ y)
  simp only [List.mem_cons, List.mem_nil_iff, or_false] at hp
  rcases hp with rfl | rfl | rfl | rfl | rfl | rfl | rfl | rfl <;>
    exact tile_eq_pointOut _ _ _ _ _ _ j _ (congrArg (_ + ·) (Nat.one_mul (j 1).val))
      ((Nat.zero_add _).trans (Nat.one_mul (j 2).val))

/-- The mask of a diagonal tile: a query sees the keys up to its own token. -/
theorem mask_apply (i : ℕ) (r c : Fin 256) :
    k0_pay2 (ix2 r c) = if at8 i r ≤ at8 i c then 1#1 else 0#1 := by
  have hr := r.isLt
  have hc := c.isLt
  have e : k0_pay2 (ix2 r c) = IntOp.cmpi .sle (BitVec.ofNat 32 r.val) (BitVec.ofNat 32 c.val) := by
    pointwise [k0_pay2]
  refine e.trans ((Ints.sle_ofNat r.val c.val (by omega) (by omega))|>.trans ?_)
  refine if_congr (?_ : r.val ≤ c.val ↔ at8 i r ≤ at8 i c) rfl rfl
  show r.val ≤ c.val ↔ 256 * (i % 8) + r.val ≤ 256 * (i % 8) + c.val
  omega

/-- Where each window's block lies at grid point `t`. -/
theorem idx : ∀ t : Fin cfg0.N, win0_0.index t = ![t.val % 2, t.val / 2] ∧ win0_1.index t = ![t.val / 2, 0, t.val % 2]
    ∧ win0_2.index t = ![t.val % 2, t.val / 2] ∧ win0_3.index t = ![t.val / 2, 0, t.val % 2] ∧ t.val / 2 < 16 :=
  (by decide +kernel : ∀ t : Fin grid0.N, _)

variable (m : (ℓ : Loc nD τ sig) → Buf (Elt Ideal) ℓ)

/-- The result array after the run is the causal attention of the argument arrays. -/
theorem final (c : Dev nD) (q : Vec Ideal S1024x32768 .bf16) (k : Vec Ideal S16x2048x1024 .bf16)
    (v : Vec Ideal S640x32768 .bf16) (e0 : m ((c : Thread nD τ).loc main_arg0) = q)
    (e1 : m ((c : Thread nD τ).loc main_arg1) = k) (e2 : m ((c : Thread nD τ).loc main_arg2) = v)
    (hq : ∀ y, ∃ r : ℝ, q y = (r : EReal)) (hk : ∀ y, ∃ r : ℝ, k y = (r : EReal))
    (h1 : ∀ b H s, vAt v b H ⟨64, by omega⟩ s = 1) :
    (dats m 0 c).arrAt 3 cfg0.N = attArr q k v (fun t s => s ≤ t) := by
  refine (dats m 0 c).arrAt_eq_of_covers 3 _ (by decide +kernel) fun t _ y => ?_
  blk_simp
  rw [after0_3]
  rw [out_apply]
  obtain ⟨i0, i1, i2, i3, ht⟩ := idx t
  have h0 : (y 0).val < 1 := (y 0).isLt
  have h2 : (y 2).val < 256 := (y 2).isLt
  have hH : 4 * (t.val % 2) + (y 2).val / 64 < 8 := by omega
  rw [pointOut_eq q k v (fun t s => s ≤ t) k0_pay2 _ _ _ ⟨t.val / 2, ht⟩ ⟨t.val % 2, Nat.mod_lt _ (by omega)⟩
    ?_ ?_ ?_ hq hk (h1 _) mask_apply (fun t s h => ?_) (fun t s h => ?_)
    (fun t => le_rfl) y ⟨4 * (t.val % 2) + (y 2).val / 64, hH⟩ rfl]
  · unfold attArr
    congr 1
    all_goals refine Fin.ext ?_
    all_goals blk_simp [i3]
    all_goals (dsimp only; omega)
  · intro a s
    blk_simp [iblk, V, e0]
    blk_ext [i0]
  · intro a s
    blk_simp [iblk, V, e1]
    blk_ext [i1]
  · intro a s
    blk_simp [iblk, V, e2]
    blk_ext [i2]
  · rw [Fin.le_def]
    omega
  · rw [Fin.le_def]
    omega

end Cert.Proof.Fox
-- ==== Proof.AttRef.lean ====
/- The plain softmax of a row of masked scores, as a reference computes it. -/
module

public import proofs.«01_k».proof.Proof.Softmax

@[expose] public section

noncomputable section

namespace Cert.Proof.Softmax

open Idealize.ShloMosaic

variable {n : ℕ} (A : Fin n → Prop) [DecidablePred A] (S : Fin n → ℝ)

/-- Masked scores times log 2, less their maximum, exponentiated, divided by their sum, against the values: the weighted
    mean `out`. -/
theorem ref_row (v x : Fin n → EReal) (hx : ∀ s, x s = if A s then ((S s * Real.log 2 : ℝ) : EReal) else ⊥) (M : EReal)
    (hM : M = max ⊥ (Finset.univ.fold max ⊥ x)) (s : Fin n) (h : A s) :
    ∑ s, Ideal.div (Ideal.exp (x s - M)) (0 + ∑ s, Ideal.exp (x s - M)) * v s = out A S v := by
  obtain ⟨r, hr⟩ := fold_max_real x (fun i => by rw [hx]; split; exacts [EReal.coe_ne_top _, bot_ne_top]) s (by rw [hx, if_pos h]; exact EReal.coe_ne_bot _)
  rw [hr, max_eq_right bot_le] at hM
  subst hM
  simp only [hx, exp_msc]
  exact softmax_eq A S v _ (Real.exp_pos _) s h

end Cert.Proof.Softmax

end
-- ==== Proof.FoxRef.lean ====
/- What the forgetting attention's reference computes. -/
module

public import proofs.«01_k».proof.Proof.AttRef
public import proofs.«01_k».proof.Proof.TileRead
public import proofs.«01_k».proof.Proof.Ints
public import proofs.«01_k».proof.Proof.Gen.FoxRefIdeal.Read
public import Idealize.ShloMosaic.Lib.Pipeline.ValueKit

@[expose] public section

set_option maxRecDepth 16384

noncomputable section

namespace Cert.Proof.FoxRef

open Cert.FoxRefIdeal Cert.FoxRefIdeal.Gen Cert.FoxRefIdeal.Read Cert.Proof.Attn Cert.Proof.Softmax Idealize.ShloMosaic

variable (q : Vec Ideal S1024x32768 .bf16) (k : Vec Ideal S16x2048x1024 .bf16) (v : Vec Ideal S640x32768 .bf16)
  (b : Fin 16) (H : Fin 8) (t s : Fin 2048)

theorem q_apply (d : Fin 128) : val_main_v9 (F := Ideal) q (ix4 b H t d) = qAt q b H t d := by
  rw [val_main_v9_apply, val_main_v8_apply]
  show q _ = q _
  blk_ext []

theorem k_apply (d : Fin 128) : val_main_v12 (F := Ideal) k (ix4 b H s d) = kAt k b H s d := by
  rw [val_main_v12_apply, val_main_v11_apply]
  show k _ = k _
  blk_ext []

theorem v_apply (x : Fin 64) : val_main_v16 (F := Ideal) v (ix4 b H s x) = vAt v b H ⟨x.val, by omega⟩ s := by
  rw [val_main_v16_apply, val_main_v15_apply, val_main_v14_apply]
  show v _ = v _
  blk_ext []

/-- The mask: query `t` sees key `s` up to its own token. -/
theorem mask_apply : val_main_v6 (F := Ideal) (ix2 t s) = if s ≤ t then 1#1 else 0#1 :=
  Ints.sle_ofNat s.val t.val s.isLt t.isLt

/-- The constant −∞. -/
theorem neg_inf : Ideal.ofBits .f32 0xFF800000#32 = ⊥ := by simp [Ideal.ofBits, Ideal.ieee]

/-- The constant 2. -/
theorem two : Ideal.ofBits .f32 0x40000000#32 = ((2 : ℝ) : EReal) := by
  simp [Ideal.ofBits, Ideal.ieee, -EReal.coe_mul]
  norm_num

/-- The masked scores, times log 2. -/
theorem score_apply (hq : ∀ y, ∃ r : ℝ, q y = (r : EReal)) (hk : ∀ y, ∃ r : ℝ, k y = (r : EReal)) :
    val_main_v21 (F := Ideal) q k (ix4 b H t s)
      = if s ≤ t then ((sc q k b H t s * Real.log 2 : ℝ) : EReal) else ⊥ := by
  rw [val_main_v21_apply, val_main_call0_v1_apply]
  rw [show idx_main_call0_v1 (ix4 b H t s) = ix2 t s from funext fun a => by fin_cases a <;> rfl, mask_apply]
  have e : val_main_v17 (F := Ideal) q k (ix4 b H t s) = (sc q k b H t s : EReal) := by
    rw [val_main_v17_apply, ← sc_eq q k b H t s hq hk]
    refine Finset.sum_congr rfl fun d _ => ?_
    rw [mul_comm, ← q_apply, ← k_apply]
    rfl
  have l : val_main_v19 (F := Ideal) (ix4 b H t s) = ((Real.log 2 : ℝ) : EReal) := by
    rw [val_main_v19_apply]
    show Ideal.log (Ideal.ofBits .f32 0x40000000#32) = _
    rw [two, Ideal.log_coe, if_neg (by norm_num)]
  rw [val_main_v20_apply, e, l]
  show Scalar.select _ ((sc q k b H t s : EReal) * ((Real.log 2 : ℝ) : EReal)) (Ideal.ofBits .f32 0xFF800000#32) = _
  rw [← EReal.coe_mul, neg_inf]
  split <;> rfl

/-- The maximum of a row of masked scores. -/
theorem max_apply : val_main_v24 (F := Ideal) q k (ix3 b H t)
    = max ⊥ (Finset.univ.fold max ⊥ fun s : Fin 2048 => val_main_v21 (F := Ideal) q k (ix4 b H t s)) := by
  rw [val_main_v24_apply]
  show max (Ideal.ofBits .f32 0xFF800000#32) (val_main_v22 (F := Ideal) q k (ix3 b H t)) = _
  rw [neg_inf]
  refine congrArg (max ⊥) ?_
  unfold val_main_v22
  rw [Host.reduce_eq_fold_single FloatOps.maximumf _ _ _ (by decide)]
  show Finset.univ.fold max (Ideal.ofBits .f32 0xFF800000#32) _ = _
  rw [neg_inf]
  refine congrArg (Finset.univ.fold max ⊥) (funext fun s => congrArg (val_main_v21 q k) (funext fun a => ?_))
  fin_cases a <;> rfl

/-- The exponential of a masked score, less the maximum. -/
theorem exp_apply : val_main_v28 (F := Ideal) q k (ix4 b H t s)
    = Ideal.exp (val_main_v21 (F := Ideal) q k (ix4 b H t s) - val_main_v24 (F := Ideal) q k (ix3 b H t)) := by
  rw [val_main_v28_apply, val_main_v27_apply, val_main_v26_apply, val_main_v25_apply,
    show idx_main_v25 (idx_main_v26 (ix4 b H t s)) = ix3 b H t from funext fun a => by fin_cases a <;> rfl]
  rfl

/-- A weight: an exponential divided by the sum of its row. -/
theorem weight_apply : val_main_v32 (F := Ideal) q k (ix4 b H t s)
    = Ideal.div (val_main_v28 (F := Ideal) q k (ix4 b H t s))
        (0 + ∑ s, val_main_v28 (F := Ideal) q k (ix4 b H t s)) := by
  rw [val_main_v32_apply, val_main_v31_apply, val_main_v30_apply, val_main_v29_apply]
  refine congrArg (Ideal.div _) (congrArg₂ (· + ·) ?_ (Finset.sum_congr rfl fun s _ => congrArg _ (funext fun a => ?_)))
  · exact Ideal.ofBits_zero_f32
  · fin_cases a <;> rfl

/-- A row of weights times a column of values is the softmax-weighted mean. -/
theorem row (x : Fin 64) (hq : ∀ y, ∃ r : ℝ, q y = (r : EReal)) (hk : ∀ y, ∃ r : ℝ, k y = (r : EReal)) :
    ∑ s, val_main_v32 (F := Ideal) q k (ix4 b H t s) * vAt v b H ⟨x.val, by omega⟩ s
    = att q k v (fun t s => s ≤ t) b H t ⟨x.val, by omega⟩ := by
  unfold att
  rw [← ref_row _ _ _ _ (fun s => score_apply q k b H t s hq hk) _ (max_apply q k b H t) _ le_rfl]
  refine Finset.sum_congr rfl fun s _ => congrArg (· * _) ?_
  rw [weight_apply]
  simp only [exp_apply]

/-- The reference's result is the causal attention of the argument arrays. -/
theorem value (hq : ∀ y, ∃ r : ℝ, q y = (r : EReal)) (hk : ∀ y, ∃ r : ℝ, k y = (r : EReal)) :
    val_main_v36 (F := Ideal) q k v = attArr q k v (fun t s => s ≤ t) := by
  funext y
  rw [val_main_v36_apply]
  show val_main_v35 (F := Ideal) q k v y = _
  rw [val_main_v35_apply, val_main_v34_apply, val_main_v33_apply]
  have h0 : (y 0).val < 16 := (y 0).isLt
  have h1 : (y 1).val < 2048 := (y 1).isLt
  have h2 : (y 2).val < 512 := (y 2).isLt
  unfold attArr
  rw [← row q k v _ _ _ ⟨(y 2).val % 64, by omega⟩ hq hk]
  refine Finset.sum_congr rfl fun s _ => congrArg₂ (· * ·) ?_ ?_
  · blk_ext []
  · rw [← v_apply]
    blk_ext []

end Cert.Proof.FoxRef

end
-- ==== Proof.Pre.lean ====
/- What the precondition says of the attention calls' arguments. -/
module

public import proofs.«01_k».proof.Proof.TileRead
public import proofs.«01_k».proof.Proof.Gen.Pre_finite_scores_unit_row
public import Idealize.ShloMosaic.Lib.ReduceAll
public import Idealize.ShloMosaic.Lib.IdealHost
public import Idealize.ShloMosaic.Lib.Pipeline.ValueKit

@[expose] public section

set_option maxRecDepth 16384

noncomputable section

namespace Cert.Proof.Pre

open Cert.Proof.Attn Idealize.ShloMosaic

/-- An extended real whose absolute value is below infinity is a real number. -/
theorem real_of_abs (x : EReal) (h : max x (-x) < ⊤) : ∃ r : ℝ, x = (r : EReal) := by
  induction x using EReal.rec with
  | bot => simp at h
  | coe r => exact ⟨r, rfl⟩
  | top => simp at h

/-- The precondition: the queries and keys are finite, and row 64 of each head's values holds ones. -/
theorem decode (q : Vec Ideal Cert.FoxIdeal.S1024x32768 .bf16) (k : Vec Ideal Cert.FoxIdeal.S16x2048x1024 .bf16)
    (v : Vec Ideal Cert.FoxIdeal.S640x32768 .bf16)
    (h : Cert.Pre_finite_scores_unit_row.fn (F := Ideal) q k v = fun _ => 1#1) :
    (∀ y, ∃ r : ℝ, q y = (r : EReal)) ∧ (∀ y, ∃ r : ℝ, k y = (r : EReal))
      ∧ ∀ b H s, vAt v b H ⟨64, by omega⟩ s = 1 := by
  dsimp only [Cert.Pre_finite_scores_unit_row.fn, Cert.Pre_finite_scores_unit_row.fn_part1] at h
  have e := congrFun h ix0
  obtain ⟨e1, ev⟩ := IntOp.andi_eq_one.1 e
  obtain ⟨eq, ek⟩ := IntOp.andi_eq_one.1 e1
  have top : Ideal.ofBits .f32 0x7F800000#32 = ⊤ := by simp [Ideal.ofBits, Ideal.ieee]
  have one : Ideal.ofBits .f32 0x3F800000#32 = 1 := Idealize.ShloMosaic.Ideal.ofBits_one_f32
  have lt (x : EReal) (hx : Ideal.cmp .olt (max x (-x)) (Ideal.ofBits .f32 0x7F800000#32) = 1#1) : ∃ r : ℝ, x = (r : EReal) := by
    rw [top] at hx
    refine real_of_abs x ?_
    by_contra hn
    rw [Ideal.cmp, decide_eq_false hn] at hx
    exact absurd hx (by decide)
  refine ⟨fun y => lt _ (Host.reduce_andi_all _ _ _ _ _ eq y), fun y => lt _ (Host.reduce_andi_all _ _ _ _ _ ek y), fun b H s => ?_⟩
  have e3 := Host.reduce_andi_all _ _ _ _ _ ev (ix2 H ⟨2048 * b.val + s.val, by omega⟩)
  have e4 : Ideal.cmp .oeq (vAt v b H ⟨64, by omega⟩ s) (Ideal.ofBits .f32 0x3F800000#32) = 1#1 := by
    rw [← e3]
    refine congrArg (Ideal.cmp .oeq · (Ideal.ofBits .f32 0x3F800000#32)) ?_
    symm
    pointwise
    blk_ext [vAt]
  rw [one] at e4
  by_contra hn
  rw [Ideal.cmp, decide_eq_false hn] at e4
  exact absurd e4 (by decide)

end Cert.Proof.Pre

end
-- ==== Proof.FoxClaim.lean ====
/- The causal attention call and its reference end with equal results. -/
module

public import proofs.«01_k».proof.Defs
public import proofs.«01_k».proof.Proof.FoxValue
public import proofs.«01_k».proof.Proof.FoxRef
public import proofs.«01_k».proof.Proof.Pre
public import proofs.«01_k».proof.Proof.Gen.FoxIdeal.Value
public import proofs.«01_k».proof.Proof.Gen.FoxRefIdeal.Run
public import Idealize.ShloMosaic.Lib.Claim

@[expose] public section

set_option maxRecDepth 16384

noncomputable section

namespace Cert.Proof.Fox

open Cert.Proof.Attn Idealize.ShloMosaic Idealize.SL.Sem

/-- From memories that agree on the arguments, with finite queries and keys and rows of ones, the kernel and the
    reference end with the same attention. -/
theorem algebraic : Cert.algebraic_FoxIdeal_FoxRefIdeal_pre_finite_scores_unit_row := by
  intro m g m' g' hpre hargs
  have d c := Pre.decode _ _ _ (hpre c)
  refine ⟨fun c => attArr (m (c.tc.loc Cert.FoxIdeal.main_arg0)) (m (c.tc.loc Cert.FoxIdeal.main_arg1))
    (m (c.tc.loc Cert.FoxIdeal.main_arg2)) (fun t s => s ≤ t), ?_, ?_⟩
  · refine (θ_run _ _ _).mono (fun r h c => ⟨(h c).1.trans ?_, (h c).2⟩) (Cert.FoxIdeal.Value.run_blocks m g)
    exact final m c _ _ _ rfl rfl rfl (d c).1 (d c).2.1 (d c).2.2
  · refine (θ_run _ _ _).mono (fun r h c => ⟨(h c).1.trans ?_, (h c).2⟩) (Cert.FoxRefIdeal.Value.run m' g')
    rw [Cert.FoxRefIdeal.Read.val_main_v36_eq, (hargs c).1, (hargs c).2.1, (hargs c).2.2]
    exact Cert.Proof.FoxRef.value _ _ _ (d c).1 (d c).2.1

/-- The literal at the masked places stands for minus infinity. -/
theorem preserves : Cert.preserves_Fox_FoxIdeal := by
  exact IdealRules.named_const.statement _ _ _ _ _ rfl

end Cert.Proof.Fox

end
-- ==== Proof.MlaPieces.lean ====
/- The block-causal attention's eight stores are the eight query tiles of `Tile.lean`. -/
module

public import proofs.«01_k».proof.Proof.Tile
public import proofs.«01_k».proof.Proof.Gen.MlaIdeal.Frame

@[expose] public section

noncomputable section

namespace Cert.Proof.Mla

open Cert.MlaIdeal Cert.MlaIdeal.Gen Cert.Proof.Attn Idealize.ShloMosaic

variable {F : FTy → Type} [FloatOps F] [Named F]

/-- The word that stands for minus infinity in a masked score. -/
abbrev neg : F .f32 := Named.named κ "mask" 0xFF7F0000#32

/-- The mask of a diagonal tile: the quotients of the positions by 64, compared. -/
abbrev mask : IVec S256x256 1 := k0_pay7 k0_pay2 k0_pay3 k0_pay4 k0_pay5 k0_pay6

set_option maxRecDepth 65536 in
/-- What the grid point leaves in its output block: the eight tiles, the last first. -/
theorem out_eq (x0 : Vec F S512x2048 .bf16) (x1 : Vec F S1x2048x512 .bf16) (x2 : Vec F S320x2048 .bf16) :
    out0_3 x0 x1 x2 = View.canon [⟨r0_103, tile mask neg x0 x1 x2 7⟩, ⟨r0_93, tile mask neg x0 x1 x2 6⟩,
      ⟨r0_80, tile mask neg x0 x1 x2 5⟩, ⟨r0_68, tile mask neg x0 x1 x2 4⟩, ⟨r0_56, tile mask neg x0 x1 x2 3⟩,
      ⟨r0_44, tile mask neg x0 x1 x2 2⟩, ⟨r0_33, tile mask neg x0 x1 x2 1⟩, ⟨r0_23, tile mask neg x0 x1 x2 0⟩] :=
  rfl

end Cert.Proof.Mla

end
-- ==== Proof.MlaValue.lean ====
/- The block-causal attention's result array after the kernel's run. -/
module

public import proofs.«01_k».proof.Proof.MlaPieces
public import proofs.«01_k».proof.Proof.TileRead
public import proofs.«01_k».proof.Proof.Ints
public import proofs.«01_k».proof.Proof.Gen.MlaIdeal.Value
public import Idealize.ShloMosaic.Lib.Pipeline.ValueKit

@[expose] public section

set_option maxRecDepth 16384

noncomputable section

namespace Cert.Proof.Mla

open Cert.MlaIdeal Cert.MlaIdeal.Gen Cert.Proof.Attn Cert.Proof.Softmax Idealize.ShloMosaic Idealize.ShloMosaic.TcCoe Idealize.SL.Sem
open Idealize.ShloMosaic.Pipeline (Dat)

/-- A grid point's output block, read at an index. -/
theorem out_apply (x0 : Vec Ideal S512x2048 .bf16) (x1 : Vec Ideal S1x2048x512 .bf16) (x2 : Vec Ideal S320x2048 .bf16)
    (y : S1x2048x256.Idx) : out0_3 (F := Ideal) x0 x1 x2 y = pointOut mask ⊥ x0 x1 x2 y := by
  rw [out_eq]
  refine View.canon_apply_of_pieces (Val := Elt Ideal) (e := .bf16) (pointOut mask ⊥ x0 x1 x2) _ (fun p hp j => ?_) y (cover0_3 _ _ _ _ _ _ _ _ y)
  simp only [List.mem_cons, List.mem_nil_iff, or_false] at hp
  rcases hp with rfl | rfl | rfl | rfl | rfl | rfl | rfl | rfl <;>
    exact tile_eq_pointOut _ _ _ _ _ _ j _ (congrArg (_ + ·) (Nat.one_mul (j 1).val))
      ((Nat.zero_add _).trans (Nat.one_mul (j 2).val))

/-- The quotient of a query's position in its tile by 64. -/
theorem quot_query (r c : Fin 256) : k0_pay2 (ix2 r c) = BitVec.ofNat 32 (r.val / 64) := by
  pointwise [k0_pay2]
  revert r
  decide +kernel

/-- The quotient of a key's position in its tile by 64. -/
theorem quot_key (c : Fin 256) : Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (c.val / 64) := by
  revert c
  decide +kernel

/-- The mask of a diagonal tile: a query sees the keys up to its own block of 64. -/
theorem mask_apply (i : ℕ) (r c : Fin 256) :
    mask (ix2 r c) = if (at8 i r).val / 64 ≤ (at8 i c).val / 64 then 1#1 else 0#1 := by
  have hr := r.isLt
  have hc := c.isLt
  have e : mask (ix2 r c) = IntOp.cmpi .sle (BitVec.ofNat 32 (r.val / 64)) (BitVec.ofNat 32 (c.val / 64)) := by
    rw [← quot_query r c, ← quot_key c]
    unfold mask
    pointwise [k0_pay7, k0_pay3, k0_pay4, k0_pay5, k0_pay6]
  refine e.trans ((Ints.sle_ofNat _ _ (by omega) (by omega)).trans ?_)
  refine if_congr (?_ : r.val / 64 ≤ c.val / 64 ↔ (at8 i r).val / 64 ≤ (at8 i c).val / 64) rfl rfl
  show r.val / 64 ≤ c.val / 64 ↔ (256 * (i % 8) + r.val) / 64 ≤ (256 * (i % 8) + c.val) / 64
  omega

/-- Where each window's block lies at grid point `t`. -/
theorem idx : ∀ t : Fin cfg0.N, win0_0.index t = ![t.val % 2, t.val / 2] ∧ win0_1.index t = ![t.val / 2, 0, t.val % 2]
    ∧ win0_2.index t = ![t.val % 2, t.val / 2] ∧ win0_3.index t = ![t.val / 2, 0, t.val % 2] ∧ t.val / 2 < 16 :=
  (by decide +kernel : ∀ t : Fin grid0.N, _)

variable (m : (ℓ : Loc nD τ sig) → Buf (Elt Ideal) ℓ)

/-- The result array after the run is the block-causal attention of the argument arrays. -/
theorem final (c : Dev nD) (q : Vec Ideal S1024x32768 .bf16) (k : Vec Ideal S16x2048x1024 .bf16)
    (v : Vec Ideal S640x32768 .bf16) (e0 : m ((c : Thread nD τ).loc main_arg0) = q)
    (e1 : m ((c : Thread nD τ).loc main_arg1) = k) (e2 : m ((c : Thread nD τ).loc main_arg2) = v)
    (hq : ∀ y, ∃ r : ℝ, q y = (r : EReal)) (hk : ∀ y, ∃ r : ℝ, k y = (r : EReal))
    (h1 : ∀ b H s, vAt v b H ⟨64, by omega⟩ s = 1) :
    (dats m 0 c).arrAt 3 cfg0.N = attArr q k v (fun t s => s.val / 64 ≤ t.val / 64) := by
  refine (dats m 0 c).arrAt_eq_of_covers 3 _ (by decide +kernel) fun t _ y => ?_
  blk_simp
  rw [after0_3]
  rw [out_apply]
  obtain ⟨i0, i1, i2, i3, ht⟩ := idx t
  have h0 : (y 0).val < 1 := (y 0).isLt
  have h2 : (y 2).val < 256 := (y 2).isLt
  have hH : 4 * (t.val % 2) + (y 2).val / 64 < 8 := by omega
  rw [pointOut_eq q k v (fun t s => s.val / 64 ≤ t.val / 64) mask _ _ _ ⟨t.val / 2, ht⟩ ⟨t.val % 2, Nat.mod_lt _ (by omega)⟩
    ?_ ?_ ?_ hq hk (h1 _) mask_apply (fun t s h => ?_) (fun t s h => ?_)
    (fun t => le_rfl) y ⟨4 * (t.val % 2) + (y 2).val / 64, hH⟩ rfl]
  · unfold attArr
    congr 1
    all_goals refine Fin.ext ?_
    all_goals blk_simp [i3]
    all_goals (dsimp only; omega)
  · intro a s
    blk_simp [iblk, V, e0]
    blk_ext [i0]
  · intro a s
    blk_simp [iblk, V, e1]
    blk_ext [i1]
  · intro a s
    blk_simp [iblk, V, e2]
    blk_ext [i2]
  · omega
  · omega

end Cert.Proof.Mla
-- ==== Proof.MlaRef.lean ====
/- What the block-causal attention's reference computes. -/
module

public import proofs.«01_k».proof.Proof.AttRef
public import proofs.«01_k».proof.Proof.TileRead
public import proofs.«01_k».proof.Proof.Ints
public import proofs.«01_k».proof.Proof.Gen.MlaRefIdeal.Read
public import Idealize.ShloMosaic.Lib.Pipeline.ValueKit

@[expose] public section

set_option maxRecDepth 16384

noncomputable section

namespace Cert.Proof.MlaRef

open Cert.MlaRefIdeal Cert.MlaRefIdeal.Gen Cert.MlaRefIdeal.Read Cert.Proof.Attn Cert.Proof.Softmax Idealize.ShloMosaic

variable (q : Vec Ideal S1024x32768 .bf16) (k : Vec Ideal S16x2048x1024 .bf16) (v : Vec Ideal S640x32768 .bf16)
  (b : Fin 16) (H : Fin 8) (t s : Fin 2048)

theorem q_apply (d : Fin 128) : val_main_v11 (F := Ideal) q (ix4 b H t d) = qAt q b H t d := by
  rw [val_main_v11_apply, val_main_v10_apply]
  show q _ = q _
  blk_ext []

theorem k_apply (d : Fin 128) : val_main_v14 (F := Ideal) k (ix4 b H s d) = kAt k b H s d := by
  rw [val_main_v14_apply, val_main_v13_apply]
  show k _ = k _
  blk_ext []

theorem v_apply (x : Fin 64) : val_main_v18 (F := Ideal) v (ix4 b H s x) = vAt v b H ⟨x.val, by omega⟩ s := by
  rw [val_main_v18_apply, val_main_v17_apply, val_main_v16_apply]
  show v _ = v _
  blk_ext []

/-- The quotient of a key's position by 64. -/
theorem quot_key : val_main_v4 (F := Ideal) (ix2 0 s) = BitVec.ofNat 32 (s.val / 64) := by
  revert s
  decide +kernel

/-- The quotient of a query's position by 64. -/
theorem quot_query : val_main_v5 (F := Ideal) (ix2 t 0) = BitVec.ofNat 32 (t.val / 64) := by
  revert t
  decide +kernel

/-- The mask: query `t` sees key `s` up to its own block of 64. -/
theorem mask_apply : val_main_v8 (F := Ideal) (ix2 t s) = if s.val / 64 ≤ t.val / 64 then 1#1 else 0#1 := by
  rw [val_main_v8_apply, val_main_v6_apply, val_main_v7_apply,
    show idx_main_v6 (ix2 t s) = ix2 0 s from funext fun a => by fin_cases a <;> rfl,
    show idx_main_v7 (ix2 t s) = ix2 t 0 from funext fun a => by fin_cases a <;> rfl, quot_key, quot_query]
  exact Ints.sle_ofNat _ _ (by omega) (by omega)

/-- The constant −∞. -/
theorem neg_inf : Ideal.ofBits .f32 0xFF800000#32 = ⊥ := by simp [Ideal.ofBits, Ideal.ieee]

/-- The constant 2. -/
theorem two : Ideal.ofBits .f32 0x40000000#32 = ((2 : ℝ) : EReal) := by
  simp [Ideal.ofBits, Ideal.ieee, -EReal.coe_mul]
  norm_num

/-- The masked scores, times log 2. -/
theorem score_apply (hq : ∀ y, ∃ r : ℝ, q y = (r : EReal)) (hk : ∀ y, ∃ r : ℝ, k y = (r : EReal)) :
    val_main_v23 (F := Ideal) q k (ix4 b H t s)
      = if s.val / 64 ≤ t.val / 64 then ((sc q k b H t s * Real.log 2 : ℝ) : EReal) else ⊥ := by
  rw [val_main_v23_apply, val_main_call2_v1_apply]
  rw [show idx_main_call2_v1 (ix4 b H t s) = ix2 t s from funext fun a => by fin_cases a <;> rfl, mask_apply]
  have e : val_main_v19 (F := Ideal) q k (ix4 b H t s) = (sc q k b H t s : EReal) := by
    rw [val_main_v19_apply, ← sc_eq q k b H t s hq hk]
    refine Finset.sum_congr rfl fun d _ => ?_
    rw [mul_comm, ← q_apply, ← k_apply]
    rfl
  have l : val_main_v21 (F := Ideal) (ix4 b H t s) = ((Real.log 2 : ℝ) : EReal) := by
    rw [val_main_v21_apply]
    show Ideal.log (Ideal.ofBits .f32 0x40000000#32) = _
    rw [two, Ideal.log_coe, if_neg (by norm_num)]
  rw [val_main_v22_apply, e, l]
  show Scalar.select _ ((sc q k b H t s : EReal) * ((Real.log 2 : ℝ) : EReal)) (Ideal.ofBits .f32 0xFF800000#32) = _
  rw [← EReal.coe_mul, neg_inf]
  split <;> rfl

/-- The maximum of a row of masked scores. -/
theorem max_apply : val_main_v26 (F := Ideal) q k (ix3 b H t)
    = max ⊥ (Finset.univ.fold max ⊥ fun s : Fin 2048 => val_main_v23 (F := Ideal) q k (ix4 b H t s)) := by
  rw [val_main_v26_apply]
  show max (Ideal.ofBits .f32 0xFF800000#32) (val_main_v24 (F := Ideal) q k (ix3 b H t)) = _
  rw [neg_inf]
  refine congrArg (max ⊥) ?_
  unfold val_main_v24
  rw [Host.reduce_eq_fold_single FloatOps.maximumf _ _ _ (by decide)]
  show Finset.univ.fold max (Ideal.ofBits .f32 0xFF800000#32) _ = _
  rw [neg_inf]
  refine congrArg (Finset.univ.fold max ⊥) (funext fun s => congrArg (val_main_v23 q k) (funext fun a => ?_))
  fin_cases a <;> rfl

/-- The exponential of a masked score, less the maximum. -/
theorem exp_apply : val_main_v30 (F := Ideal) q k (ix4 b H t s)
    = Ideal.exp (val_main_v23 (F := Ideal) q k (ix4 b H t s) - val_main_v26 (F := Ideal) q k (ix3 b H t)) := by
  rw [val_main_v30_apply, val_main_v29_apply, val_main_v28_apply, val_main_v27_apply,
    show idx_main_v27 (idx_main_v28 (ix4 b H t s)) = ix3 b H t from funext fun a => by fin_cases a <;> rfl]
  rfl

/-- A weight: an exponential divided by the sum of its row. -/
theorem weight_apply : val_main_v34 (F := Ideal) q k (ix4 b H t s)
    = Ideal.div (val_main_v30 (F := Ideal) q k (ix4 b H t s))
        (0 + ∑ s, val_main_v30 (F := Ideal) q k (ix4 b H t s)) := by
  rw [val_main_v34_apply, val_main_v33_apply, val_main_v32_apply, val_main_v31_apply]
  refine congrArg (Ideal.div _) (congrArg₂ (· + ·) ?_ (Finset.sum_congr rfl fun s _ => congrArg _ (funext fun a => ?_)))
  · exact Ideal.ofBits_zero_f32
  · fin_cases a <;> rfl

/-- A row of weights times a column of values is the softmax-weighted mean. -/
theorem row (x : Fin 64) (hq : ∀ y, ∃ r : ℝ, q y = (r : EReal)) (hk : ∀ y, ∃ r : ℝ, k y = (r : EReal)) :
    ∑ s, val_main_v34 (F := Ideal) q k (ix4 b H t s) * vAt v b H ⟨x.val, by omega⟩ s
    = att q k v (fun t s => s.val / 64 ≤ t.val / 64) b H t ⟨x.val, by omega⟩ := by
  unfold att
  rw [← ref_row _ _ _ _ (fun s => score_apply q k b H t s hq hk) _ (max_apply q k b H t) _ (le_refl (t.val / 64))]
  refine Finset.sum_congr rfl fun s _ => congrArg (· * _) ?_
  rw [weight_apply]
  simp only [exp_apply]

/-- The reference's result is the block-causal attention of the argument arrays. -/
theorem value (hq : ∀ y, ∃ r : ℝ, q y = (r : EReal)) (hk : ∀ y, ∃ r : ℝ, k y = (r : EReal)) :
    val_main_v38 (F := Ideal) q k v = attArr q k v (fun t s => s.val / 64 ≤ t.val / 64) := by
  funext y
  rw [val_main_v38_apply]
  show val_main_v37 (F := Ideal) q k v y = _
  rw [val_main_v37_apply, val_main_v36_apply, val_main_v35_apply]
  have h0 : (y 0).val < 16 := (y 0).isLt
  have h1 : (y 1).val < 2048 := (y 1).isLt
  have h2 : (y 2).val < 512 := (y 2).isLt
  unfold attArr
  rw [← row q k v _ _ _ ⟨(y 2).val % 64, by omega⟩ hq hk]
  refine Finset.sum_congr rfl fun s _ => congrArg₂ (· * ·) ?_ ?_
  · blk_ext []
  · rw [← v_apply]
    blk_ext []

end Cert.Proof.MlaRef

end
-- ==== Proof.MlaClaim.lean ====
/- The block-causal attention call and its reference end with equal results. -/
module

public import proofs.«01_k».proof.Defs
public import proofs.«01_k».proof.Proof.MlaValue
public import proofs.«01_k».proof.Proof.MlaRef
public import proofs.«01_k».proof.Proof.Pre
public import proofs.«01_k».proof.Proof.Gen.MlaIdeal.Value
public import proofs.«01_k».proof.Proof.Gen.MlaRefIdeal.Run
public import Idealize.ShloMosaic.Lib.Claim

@[expose] public section

set_option maxRecDepth 16384

noncomputable section

namespace Cert.Proof.Mla

open Cert.Proof.Attn Idealize.ShloMosaic Idealize.SL.Sem

/-- From memories that agree on the arguments, with finite queries and keys and rows of ones, the kernel and the
    reference end with the same attention. -/
theorem algebraic : Cert.algebraic_MlaIdeal_MlaRefIdeal_pre_finite_scores_unit_row := by
  intro m g m' g' hpre hargs
  have d c := Pre.decode _ _ _ (hpre c)
  refine ⟨fun c => attArr (m (c.tc.loc Cert.MlaIdeal.main_arg0)) (m (c.tc.loc Cert.MlaIdeal.main_arg1))
    (m (c.tc.loc Cert.MlaIdeal.main_arg2)) (fun t s => s.val / 64 ≤ t.val / 64), ?_, ?_⟩
  · refine (θ_run _ _ _).mono (fun r h c => ⟨(h c).1.trans ?_, (h c).2⟩) (Cert.MlaIdeal.Value.run_blocks m g)
    exact final m c _ _ _ rfl rfl rfl (d c).1 (d c).2.1 (d c).2.2
  · refine (θ_run _ _ _).mono (fun r h c => ⟨(h c).1.trans ?_, (h c).2⟩) (Cert.MlaRefIdeal.Value.run m' g')
    rw [Cert.MlaRefIdeal.Read.val_main_v38_eq, (hargs c).1, (hargs c).2.1, (hargs c).2.2]
    exact Cert.Proof.MlaRef.value _ _ _ (d c).1 (d c).2.1

/-- The literal at the masked places stands for minus infinity. -/
theorem preserves : Cert.preserves_Mla_MlaIdeal := by
  exact IdealRules.named_const.statement _ _ _ _ _ rfl

end Cert.Proof.Mla

end
-- ==== Proof.FfnRow.lean ====
/- One row of the feed-forward calls, over the extended reals. -/
module

public import Idealize.ShloMosaic.PureOps.Ideal

@[expose] public section

noncomputable section

namespace Cert.Proof.Ffn

open Idealize.ShloMosaic

/-- A row divided by the root of its mean square and scaled by the gains. -/
def normRow (x g : Fin 1024 → EReal) (d : Fin 1024) : EReal :=
  x d * Ideal.rsqrt (Ideal.div (∑ e, x e * x e) (Ideal.ofBits .f32 0x44800000#32) + Ideal.ofBits .f32 0x358637BD#32) * g d

/-- A gated activation: the gate `a` times its logistic, times the other product. -/
def act (h : Fin 1024 → EReal) (a b : Fin 1024 → EReal) : EReal :=
  (∑ d, h d * a d) * Ideal.logistic (∑ d, h d * a d) * ∑ d, h d * b d

/-- Column `j` of a row's hidden layer: the gate is column `j` of the weights, the other product column `2816 + j`. -/
def hiddenRow (h : Fin 1024 → EReal) (w : Fin 1024 → Fin 5632 → EReal) (j : Fin 2816) : EReal :=
  act h (fun d => w d ⟨j.val, by omega⟩) (fun d => w d ⟨2816 + j.val, by omega⟩)

/-- A row plus half of its feed-forward. -/
def row (x g : Fin 1024 → EReal) (w : Fin 1024 → Fin 5632 → EReal) (u : Fin 2816 → Fin 1024 → EReal) (c : Fin 1024) : EReal :=
  x c + Ideal.ofBits .f32 0x3F000000#32 * ∑ j, hiddenRow (normRow x g) w j * u j c

end Cert.Proof.Ffn

end
-- ==== Proof.FfnTile.lean ====
/- What a grid point of a feed-forward call computes from its blocks. -/
module

public import proofs.«01_k».proof.Proof.FfnRow
public import proofs.«01_k».proof.Proof.Gen.FfnIdeal.Value
public import Idealize.ShloMosaic.Lib.Pipeline.ValueKit

@[expose] public section

set_option maxRecDepth 16384

noncomputable section

namespace Cert.Proof.Ffn

open Cert.FfnIdeal Cert.FfnIdeal.Gen Idealize.ShloMosaic Idealize.ShloMosaic.TcCoe

/-- The normalized block, read at an index. -/
theorem norm_apply (x : Vec Ideal S1024x1024 .f32) (g : Vec Ideal S1x1x1024 .f32) (r d : Fin 1024) :
    k0_pay2 (F := Ideal) x g (ix2 r d) = normRow (fun d => x (ix2 r d)) (fun d => g (ix3 0 0 d)) d := by
  unfold normRow
  pointwise [k0_pay2]

/-- A chunk of the hidden layer, read at an index. -/
theorem chunk_apply (h : Vec Ideal S1024x1024 .bf16) (a b : Vec Ideal S1x1024x256 .bf16) (r : Fin 1024) (j : Fin 256) :
    k0_pay6 (F := Ideal) h a b (ix2 r j)
      = act (fun d => h (ix2 r d)) (fun d => a (ix3 0 d j)) (fun d => b (ix3 0 d j)) := by
  unfold act
  pointwise [k0_pay6]

/-- The product of the hidden layer and the second weights, read at an index. -/
theorem down_apply (t : Vec Ideal S1024x2816 .bf16) (u : Vec Ideal S1x2816x1024 .bf16) (r c : Fin 1024) :
    k0_pay16 (F := Ideal) t u (ix2 r c) = ∑ j, t (ix2 r j) * u (ix3 0 j c) := by
  pointwise [k0_pay16]

/-- Half of the product added to the block. -/
theorem add_apply (x y : Vec Ideal S1024x1024 .f32) (s : Ideal .f32) (r c : Fin 1024) :
    k0_pay1 (F := Ideal) x y s (ix2 r c) = x (ix2 r c) + s * y (ix2 r c) := by
  pointwise [k0_pay1]

/-- Chunk `i` of the hidden layer as it is stored: columns `256 i` to `256 i + 255`. -/
def piece (h : Vec Ideal S1024x1024 .bf16) (w : Vec Ideal S1x1024x5632 .bf16) (i : ℕ) (hi : i < 11) :
    View.Piece (Elt Ideal) S1024x2816 .bf16 :=
  ⟨Rect.unit (s := S1024x2816) ![0, 256 * i] ![1024, 256] (by intro a; fin_cases a <;> simp [S1024x2816] <;> omega),
    k0_pay6 (F := Ideal) h
      (View.ld w (Rect.unit (s := S1x1024x5632) ![0, 0, 256 * i] ![1, 1024, 256] (by intro a; fin_cases a <;> simp [S1x1024x5632] <;> omega)))
      (View.ld w (Rect.unit (s := S1x1024x5632) ![0, 0, 2816 + 256 * i] ![1, 1024, 256] (by intro a; fin_cases a <;> simp [S1x1024x5632] <;> omega)))⟩

/-- The eleven chunks, the last stored first. -/
def pieces (h : Vec Ideal S1024x1024 .bf16) (w : Vec Ideal S1x1024x5632 .bf16) : List (View.Piece (Elt Ideal) S1024x2816 .bf16) :=
  [piece h w 10 (by omega), piece h w 9 (by omega), piece h w 8 (by omega), piece h w 7 (by omega), piece h w 6 (by omega),
    piece h w 5 (by omega), piece h w 4 (by omega), piece h w 3 (by omega), piece h w 2 (by omega), piece h w 1 (by omega),
    piece h w 0 (by omega)]

/-- Every chunk holds its columns of the hidden layer. -/
theorem piece_apply (h : Vec Ideal S1024x1024 .bf16) (w : Vec Ideal S1x1024x5632 .bf16) (i : ℕ) (hi : i < 11)
    (x : (piece h w i hi).1.shape.Idx) : (piece h w i hi).2 x
      = hiddenRow (fun d => h (ix2 ((piece h w i hi).1.emb x 0) d)) (fun d j => w (ix3 0 d j)) ((piece h w i hi).1.emb x 1) := by
  have h0 : (x 0).val < 1024 := (x 0).isLt
  have h1 : (x 1).val < 256 := (x 1).isLt
  have ex : x = ix2 ⟨(x 0).val, h0⟩ ⟨(x 1).val, h1⟩ := funext fun a => by fin_cases a <;> rfl
  have e0 : (piece h w i hi).1.emb x 0 = (⟨(x 0).val, h0⟩ : Fin 1024) :=
    Fin.ext ((Nat.zero_add _).trans (Nat.one_mul _))
  have e1 : ((piece h w i hi).1.emb x 1).val = 256 * i + (x 1).val := congrArg (256 * i + ·) (Nat.one_mul _)
  rw [e0]
  show k0_pay6 (F := Ideal) h _ _ x = _
  refine (congrArg (k0_pay6 (F := Ideal) h _ _) ex).trans ((chunk_apply _ _ _ _ _).trans ?_)
  refine congrArg₂ (act _) (funext fun d => congrArg w (funext fun a => Fin.ext ?_))
    (funext fun d => congrArg w (funext fun a => Fin.ext ?_))
  all_goals
    fin_cases a
    · rfl
    · exact (Nat.zero_add _).trans (Nat.one_mul _)
  · exact (congrArg (256 * i + ·) (Nat.one_mul _)).trans e1.symm
  · refine (congrArg (2816 + 256 * i + ·) (Nat.one_mul _)).trans ?_
    show 2816 + 256 * i + (x 1).val = 2816 + ((piece h w i hi).1.emb x 1).val
    rw [e1, Nat.add_assoc]

/-- The hidden layer read back from its chunks. -/
theorem pieces_apply (h : Vec Ideal S1024x1024 .bf16) (w : Vec Ideal S1x1024x5632 .bf16) (y : S1024x2816.Idx) :
    View.canon (pieces h w) y = hiddenRow (fun d => h (ix2 (y 0) d)) (fun d j => w (ix3 0 d j)) (y 1) := by
  refine View.canon_apply_of_pieces (Val := Elt Ideal) (e := .bf16)
    (fun y => hiddenRow (fun d => h (ix2 (y 0) d)) (fun d j => w (ix3 0 d j)) (y 1)) _ (fun p hp j => ?_) y ?_
  · simp only [pieces, List.mem_cons, List.mem_nil_iff, or_false] at hp
    rcases hp with rfl | rfl | rfl | rfl | rfl | rfl | rfl | rfl | rfl | rfl | rfl <;> exact piece_apply h w _ _ j
  · exact View.cover_of_tiledL (pieces h w) ![1024, 256] (by sl_kernel_rfl) y

/-- The hidden layer loaded whole from the buffer of the chunks. -/
theorem load_apply {sg : RefSig} {κ : Kind} {sp : Space} (v : View sg κ sp S1024x2816 .bf16) (h : Vec Ideal S1024x1024 .bf16)
    (w : Vec Ideal S1x1024x5632 .bf16) (inb) (r : Fin 1024) (j : Fin 2816) :
    v.readCov (pieces h w) (Rect.unit (s := S1024x2816) ![0, 0] ![1024, 2816] inb).toLoadRect (ix2 r j)
      = hiddenRow (fun d => h (ix2 r d)) (fun d j => w (ix3 0 d j)) j := by
  rw [View.readCov_eq_canon']
  refine (congrArg (View.canon (pieces h w)) (funext fun a => Fin.ext ?_ : _ = ix2 r j)).trans (pieces_apply h w (ix2 r j))
  fin_cases a <;> exact (Nat.zero_add _).trans (Nat.one_mul _)

/-- The feed-forward of a block with the hidden layer's input `h`. -/
theorem point_apply {sg : RefSig} {κ : Kind} {sp : Space} (v : View sg κ sp S1024x2816 .bf16) (x : Vec Ideal S1024x1024 .f32)
    (h : Vec Ideal S1024x1024 .bf16) (g : Fin 1024 → EReal)
    (w : Vec Ideal S1x1024x5632 .bf16) (u : Vec Ideal S1x2816x1024 .bf16) (inb) (r c : Fin 1024)
    (e : ∀ d, h (ix2 r d) = normRow (fun d => x (ix2 r d)) g d) :
    k0_pay1 (F := Ideal) x (k0_pay16 (v.readCov (pieces h w) (Rect.unit (s := S1024x2816) ![0, 0] ![1024, 2816] inb).toLoadRect) u)
        (FloatOps.ofBits .f32 0x3F000000#32) (ix2 r c)
      = row (fun d => x (ix2 r d)) g (fun d j => w (ix3 0 d j)) (fun j c => u (ix3 0 j c)) c := by
  rw [add_apply, down_apply]
  simp only [load_apply, e]
  rfl

end Cert.Proof.Ffn

end
-- ==== Proof.FfnValue.lean ====
/- The first feed-forward's result array after the kernel's run. -/
module

public import proofs.«01_k».proof.Proof.FfnTile
public import Idealize.ShloMosaic.Lib.Claim

@[expose] public section

set_option maxRecDepth 16384

noncomputable section

namespace Cert.Proof.Ffn

open Cert.FfnIdeal Cert.FfnIdeal.Gen Idealize.ShloMosaic Idealize.ShloMosaic.TcCoe Idealize.SL.Sem
open Idealize.ShloMosaic.Pipeline (Dat)

/-- The array whose rows are the feed-forward of the rows of `x`, with the weights of layer `l`. -/
def arr (x : Vec Ideal S32768x1024 .f32) (g : Vec Ideal S2x1024 .f32) (w : Vec Ideal S2x1024x5632 .f32)
    (u : Vec Ideal S2x2816x1024 .f32) (l : Fin 2) (y : S32768x1024.Idx) : EReal :=
  row (fun d => x (ix2 (y 0) d)) (fun d => g (ix2 l d)) (fun d j => w (ix3 l d j)) (fun j c => u (ix3 l j c)) (y 1)

/-- Where each window's block lies at grid point `t`. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![t.val, 0] :=
  (by decide +kernel : ∀ t : Fin grid0.N, _)

variable (m : (ℓ : Loc nD τ sig) → Buf (Elt Ideal) ℓ)

/-- The rows of the block of `x` at grid point `t`. -/
theorem read_x (c : Dev nD) (t : Fin cfg0.N) (r d : Fin 1024) (R : Fin 32768) (hR : R.val = 1024 * t.val + r.val) :
    iblk m c 0 t (ix2 r d) = m ((c : Thread nD τ).loc main_arg0) (ix2 R d) := by
  obtain ⟨i0, -⟩ := idx t
  blk_simp [iblk, V]
  blk_ext [i0]

/-- The block of gains. -/
theorem read_g (c : Dev nD) (t : Fin cfg0.N) (d : Fin 1024) :
    iblk m c 1 t (ix3 0 0 d) = m ((c : Thread nD τ).loc main_arg1) (ix2 0 d) := by
  obtain ⟨-, i1, -⟩ := idx t
  blk_simp [iblk]
  entry_read
  pointwise
  blk_ext [i1]

/-- The block of the first weights. -/
theorem read_w (c : Dev nD) (t : Fin cfg0.N) (d : Fin 1024) (j : Fin 5632) :
    iblk m c 2 t (ix3 0 d j) = m ((c : Thread nD τ).loc main_arg2) (ix3 0 d j) := by
  obtain ⟨-, -, i2, -⟩ := idx t
  blk_simp [iblk]
  entry_read
  pointwise
  blk_ext [i2]

/-- The block of the second weights. -/
theorem read_u (c : Dev nD) (t : Fin cfg0.N) (j : Fin 2816) (d : Fin 1024) :
    iblk m c 3 t (ix3 0 j d) = m ((c : Thread nD τ).loc main_arg3) (ix3 0 j d) := by
  obtain ⟨-, -, -, i3, -⟩ := idx t
  blk_simp [iblk]
  entry_read
  pointwise
  blk_ext [i3]

/-- The result array after the run is the feed-forward of the argument arrays. -/
theorem final (c : Dev nD) : (dats m 0 c).arrAt 4 cfg0.N = arr (m ((c : Thread nD τ).loc main_arg0))
    (m ((c : Thread nD τ).loc main_arg1)) (m ((c : Thread nD τ).loc main_arg2)) (m ((c : Thread nD τ).loc main_arg3)) 0 := by
  refine (dats m 0 c).arrAt_eq_of_covers 4 _ (by decide +kernel) fun t _ y => ?_
  blk_simp
  rw [after0_4]
  unfold outsAt0
  frame_out
  have h0 : (y 0).val < 1024 := (y 0).isLt
  have h1 : (y 1).val < 1024 := (y 1).isLt
  obtain ⟨-, -, -, -, i4⟩ := idx t
  have ey : y = ix2 ⟨(y 0).val, h0⟩ ⟨(y 1).val, h1⟩ := funext fun a => by fin_cases a <;> rfl
  have e0 : (((View.whole main_v3).slice (win0_4.rect t)).emb y 0).val = 1024 * t.val + (y 0).val := by
    blk_simp [i4]
    omega
  have e1 : ((View.whole main_v3).slice (win0_4.rect t)).emb y 1 = (⟨(y 1).val, h1⟩ : Fin 1024) := by
    refine Fin.ext ?_
    blk_simp [i4]
  refine (congrArg _ ey).trans ((point_apply (View.whole cc0_scratch0) (iblk m c 0 t) (k0_pay2 (iblk m c 0 t) (iblk m c 1 t))
    (fun d => iblk m c 1 t (ix3 0 0 d)) (iblk m c 2 t) (iblk m c 3 t) _ _ _ (fun d => norm_apply _ _ _ d)).trans ?_)
  unfold arr
  rw [e1]
  congr 1
  · exact funext fun d => read_x m c t _ d _ e0
  · exact funext fun d => read_g m c t d
  · exact funext fun d => funext fun j => read_w m c t d j
  · exact funext fun j => funext fun d => read_u m c t j d

end Cert.Proof.Ffn

end
-- ==== Proof.FfnRef.lean ====
/- The first feed-forward's reference, read at an index. -/
module

public import proofs.«01_k».proof.Proof.FfnValue
public import proofs.«01_k».proof.Proof.Gen.FfnRefIdeal.Read

@[expose] public section

set_option maxRecDepth 16384

noncomputable section

namespace Cert.Proof.FfnRef

open Cert.FfnRefIdeal Cert.FfnRefIdeal.Read Cert.Proof.Ffn Idealize.ShloMosaic Idealize.ShloMosaic.TcCoe

variable (x : Vec Ideal S32768x1024 .f32) (g : Vec Ideal S2x1024 .f32) (w : Vec Ideal S2x1024x5632 .f32)
  (u : Vec Ideal S2x2816x1024 .f32)

/-- The normalized rows. -/
theorem norm_apply (R : Fin 32768) (d : Fin 1024) :
    val_main_v14 (F := Ideal) x g (ix2 R d) = normRow (fun d => x (ix2 R d)) (fun d => g (ix2 0 d)) d := by
  unfold normRow
  pointwise [val_main_v14, val_main_v13, val_main_v12, val_main_v11, val_main_v10, val_main_v9, val_main_v8, val_main_v7,
    val_main_cst_1, val_main_v6, val_main_v5, val_main_cst_0, val_main_v4, val_main_v3, val_main_cst, val_main_v2, val_main_v1, val_main_v0]

/-- A column of the product with the first weights. -/
theorem up_apply (R : Fin 32768) (j : Fin 5632) : val_main_v19 (F := Ideal) x g w (ix2 R j)
    = ∑ d, normRow (fun d => x (ix2 R d)) (fun d => g (ix2 0 d)) d * w (ix3 0 d j) := by
  simp only [← norm_apply]
  pointwise [val_main_v19, val_main_v16, val_main_v15]

/-- The hidden layer. -/
theorem hidden_apply (R : Fin 32768) (j : Fin 2816) : val_main_v23 (F := Ideal) x g w (ix2 R j)
    = hiddenRow (normRow (fun d => x (ix2 R d)) (fun d => g (ix2 0 d))) (fun d j => w (ix3 0 d j)) j := by
  unfold hiddenRow act
  rw [← up_apply, ← up_apply]
  unfold Ideal.logistic
  pointwise [val_main_v23, val_main_v22, val_main_v21, val_main_v20, val_main_call0_v5, val_main_call0_v4, val_main_call0_v3,
    val_main_call0_v2, val_main_call0_v1, val_main_call0_v0, val_main_call0_cst, val_main_call0_cst_0]

/-- The reference's result. -/
theorem value : val_main_v27 (F := Ideal) x g w u = arr x g w u 0 := by
  funext y
  have h0 : (y 0).val < 32768 := (y 0).isLt
  have h1 : (y 1).val < 1024 := (y 1).isLt
  obtain ⟨R, c, rfl⟩ : ∃ (R : Fin 32768) (c : Fin 1024), y = ix2 R c :=
    ⟨⟨(y 0).val, h0⟩, ⟨(y 1).val, h1⟩, funext fun a => by fin_cases a <;> rfl⟩
  show _ = row (fun d => x (ix2 R d)) (fun d => g (ix2 0 d)) (fun d j => w (ix3 0 d j)) (fun j c => u (ix3 0 j c)) c
  unfold row
  simp only [← hidden_apply]
  pointwise [val_main_v27, val_main_v26, val_main_v25, val_main_v24, val_main_v18, val_main_v17, val_main_cst_2]

end Cert.Proof.FfnRef

end
-- ==== Proof.FfnClaim.lean ====
/- The first feed-forward call and its reference end with equal results. -/
module

public import proofs.«01_k».proof.Defs
public import proofs.«01_k».proof.Proof.FfnRef
public import proofs.«01_k».proof.Proof.Gen.FfnRefIdeal.Run

@[expose] public section

set_option maxRecDepth 16384

noncomputable section

namespace Cert.Proof.Ffn

open Idealize.ShloMosaic Idealize.SL.Sem

/-- From memories that agree on the arguments, the kernel and the reference end with the same feed-forward. -/
theorem algebraic : Cert.algebraic_FfnIdeal_FfnRefIdeal := by
  intro m g m' g' _ hargs
  refine ⟨fun c => arr (m (c.tc.loc Cert.FfnIdeal.main_arg0)) (m (c.tc.loc Cert.FfnIdeal.main_arg1))
    (m (c.tc.loc Cert.FfnIdeal.main_arg2)) (m (c.tc.loc Cert.FfnIdeal.main_arg3)) 0, ?_, ?_⟩
  · exact (θ_run _ _ _).mono (fun r h c => ⟨(h c).1.trans (final m c), (h c).2⟩) (Cert.FfnIdeal.Value.run_blocks m g)
  · refine (θ_run _ _ _).mono (fun r h c => ⟨(h c).1.trans ?_, (h c).2⟩) (Cert.FfnRefIdeal.Value.run m' g')
    rw [Cert.FfnRefIdeal.Read.val_main_v27_eq, (hargs c).1, (hargs c).2.1, (hargs c).2.2.1, (hargs c).2.2.2]
    exact Cert.Proof.FfnRef.value _ _ _ _

end Cert.Proof.Ffn

end
-- ==== Proof.MixValue.lean ====
/- The second feed-forward's result array after the kernel's run: the attention's output is mixed in first. -/
module

public import proofs.«01_k».proof.Proof.FfnValue
public import proofs.«01_k».proof.Proof.Gen.MixIdeal.Value

@[expose] public section

set_option maxRecDepth 16384

noncomputable section

namespace Cert.Proof.Mix

open Cert.MixIdeal Cert.MixIdeal.Gen Cert.Proof.Ffn Idealize.ShloMosaic Idealize.ShloMosaic.TcCoe Idealize.SL.Sem
open Idealize.ShloMosaic.Pipeline (Dat)

/-- The rows of `x` plus the two attentions' rows times the upper and the lower half of the mixing weights. -/
def mixed (x : Vec Ideal S32768x1024 .f32) (a b : Vec Ideal S32768x512 .bf16) (p : Vec Ideal S1024x1024 .f32) : Vec Ideal S32768x1024 .f32 :=
  fun y => x (ix2 (y 0) (y 1)) + (∑ e : Fin 512, a (ix2 (y 0) e) * p (ix2 ⟨e.val, by omega⟩ (y 1)))
    + ∑ e : Fin 512, b (ix2 (y 0) e) * p (ix2 ⟨512 + e.val, by omega⟩ (y 1))

/-- The mixed block, read at an index. -/
theorem mix_apply (x : Vec Ideal S1024x1024 .f32) (a : Vec Ideal S1024x512 .bf16) (p : Vec Ideal S512x1024 .bf16)
    (b : Vec Ideal S1024x512 .bf16) (q : Vec Ideal S512x1024 .bf16) (r d : Fin 1024) :
    k0_pay3 (F := Ideal) x a p b q (ix2 r d)
      = x (ix2 r d) + (∑ e : Fin 512, a (ix2 r e) * p (ix2 e d)) + ∑ e : Fin 512, b (ix2 r e) * q (ix2 e d) := by
  pointwise [k0_pay3]

/-- Where each window's block lies at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0, 0]
    ∧ win0_7.index t = ![0, 0, 0] ∧ win0_8.index t = ![t.val, 0] :=
  (by decide +kernel : ∀ t : Fin grid0.N, _)

variable (m : (ℓ : Loc nD τ sig) → Buf (Elt Ideal) ℓ)

/-- The rows of the block of `x` at grid point `t`. -/
theorem read_x (c : Dev nD) (t : Fin cfg0.N) (r d : Fin 1024) (R : Fin 32768) (hR : R.val = 1024 * t.val + r.val) :
    iblk m c 0 t (ix2 r d) = m ((c : Thread nD τ).loc main_arg0) (ix2 R d) := by
  obtain ⟨i0, -⟩ := idx t
  blk_simp [iblk, V]
  blk_ext [i0]

/-- The rows of the block of the first attention's output. -/
theorem read_a (c : Dev nD) (t : Fin cfg0.N) (r : Fin 1024) (d : Fin 512) (R : Fin 32768) (hR : R.val = 1024 * t.val + r.val) :
    iblk m c 1 t (ix2 r d) = m ((c : Thread nD τ).loc main_arg4) (ix2 R d) := by
  obtain ⟨-, i1, -⟩ := idx t
  blk_simp [iblk, V]
  blk_ext [i1]

/-- The rows of the block of the second attention's output. -/
theorem read_b (c : Dev nD) (t : Fin cfg0.N) (r : Fin 1024) (d : Fin 512) (R : Fin 32768) (hR : R.val = 1024 * t.val + r.val) :
    iblk m c 2 t (ix2 r d) = m ((c : Thread nD τ).loc main_arg5) (ix2 R d) := by
  obtain ⟨-, -, i2, -⟩ := idx t
  blk_simp [iblk, V]
  blk_ext [i2]

/-- The upper half of the mixing weights. -/
theorem read_p (c : Dev nD) (t : Fin cfg0.N) (e : Fin 512) (d : Fin 1024) :
    iblk m c 3 t (ix2 e d) = m ((c : Thread nD τ).loc main_arg6) (ix2 ⟨e.val, by omega⟩ d) := by
  obtain ⟨-, -, -, i3, -⟩ := idx t
  blk_simp [iblk]
  entry_read
  pointwise
  blk_ext [i3]

/-- The lower half of the mixing weights. -/
theorem read_q (c : Dev nD) (t : Fin cfg0.N) (e : Fin 512) (d : Fin 1024) :
    iblk m c 4 t (ix2 e d) = m ((c : Thread nD τ).loc main_arg6) (ix2 ⟨512 + e.val, by omega⟩ d) := by
  obtain ⟨-, -, -, -, i4, -⟩ := idx t
  blk_simp [iblk]
  entry_read
  pointwise
  blk_ext [i4]

/-- The block of gains. -/
theorem read_g (c : Dev nD) (t : Fin cfg0.N) (d : Fin 1024) :
    iblk m c 5 t (ix3 0 0 d) = m ((c : Thread nD τ).loc main_arg1) (ix2 0 d) := by
  obtain ⟨-, -, -, -, -, i5, -⟩ := idx t
  blk_simp [iblk]
  entry_read
  pointwise
  blk_ext [i5]

/-- The block of the first weights. -/
theorem read_w (c : Dev nD) (t : Fin cfg0.N) (d : Fin 1024) (j : Fin 5632) :
    iblk m c 6 t (ix3 0 d j) = m ((c : Thread nD τ).loc main_arg2) (ix3 0 d j) := by
  obtain ⟨-, -, -, -, -, -, i6, -⟩ := idx t
  blk_simp [iblk]
  entry_read
  pointwise
  blk_ext [i6]

/-- The block of the second weights. -/
theorem read_u (c : Dev nD) (t : Fin cfg0.N) (j : Fin 2816) (d : Fin 1024) :
    iblk m c 7 t (ix3 0 j d) = m ((c : Thread nD τ).loc main_arg3) (ix3 0 j d) := by
  obtain ⟨-, -, -, -, -, -, -, i7, -⟩ := idx t
  blk_simp [iblk]
  entry_read
  pointwise
  blk_ext [i7]

/-- The mixed block at grid point `t`, read at an index. -/
theorem read_mixed (c : Dev nD) (t : Fin cfg0.N) (r d : Fin 1024) (R : Fin 32768) (hR : R.val = 1024 * t.val + r.val) :
    k0_pay3 (F := Ideal) (iblk m c 0 t) (iblk m c 1 t) (iblk m c 3 t) (iblk m c 2 t) (iblk m c 4 t) (ix2 r d)
      = mixed (m ((c : Thread nD τ).loc main_arg0)) (m ((c : Thread nD τ).loc main_arg4)) (m ((c : Thread nD τ).loc main_arg5))
        (m ((c : Thread nD τ).loc main_arg6)) (ix2 R d) := by
  refine (mix_apply _ _ _ _ _ r d).trans ?_
  refine congrArg₂ (· + ·) (congrArg₂ (· + ·) (read_x m c t r d R hR) ?_) ?_
  · exact Finset.sum_congr rfl fun e _ => congrArg₂ (· * ·) (read_a m c t r e R hR) (read_p m c t e d)
  · exact Finset.sum_congr rfl fun e _ => congrArg₂ (· * ·) (read_b m c t r e R hR) (read_q m c t e d)

/-- The result array after the run is the feed-forward of the mixed rows. -/
theorem final (c : Dev nD) : (dats m 0 c).arrAt 8 cfg0.N = arr (mixed (m ((c : Thread nD τ).loc main_arg0))
      (m ((c : Thread nD τ).loc main_arg4)) (m ((c : Thread nD τ).loc main_arg5)) (m ((c : Thread nD τ).loc main_arg6)))
    (m ((c : Thread nD τ).loc main_arg1)) (m ((c : Thread nD τ).loc main_arg2)) (m ((c : Thread nD τ).loc main_arg3)) 0 := by
  refine (dats m 0 c).arrAt_eq_of_covers 8 _ (by decide +kernel) fun t _ y => ?_
  blk_simp
  rw [after0_8]
  unfold outsAt0
  frame_out
  have h0 : (y 0).val < 1024 := (y 0).isLt
  have h1 : (y 1).val < 1024 := (y 1).isLt
  obtain ⟨-, -, -, -, -, -, -, -, i8⟩ := idx t
  have ey : y = ix2 ⟨(y 0).val, h0⟩ ⟨(y 1).val, h1⟩ := funext fun a => by fin_cases a <;> rfl
  have e0 : (((View.whole main_v6).slice (win0_8.rect t)).emb y 0).val = 1024 * t.val + (y 0).val := by
    blk_simp [i8]
    omega
  have e1 : ((View.whole main_v6).slice (win0_8.rect t)).emb y 1 = (⟨(y 1).val, h1⟩ : Fin 1024) := by
    refine Fin.ext ?_
    blk_simp [i8]
  refine (congrArg _ ey).trans ((point_apply (View.whole cc0_scratch0)
    (k0_pay3 (F := Ideal) (iblk m c 0 t) (iblk m c 1 t) (iblk m c 3 t) (iblk m c 2 t) (iblk m c 4 t))
    (Cert.FfnIdeal.Gen.k0_pay2 (F := Ideal) (k0_pay3 (F := Ideal) (iblk m c 0 t) (iblk m c 1 t) (iblk m c 3 t) (iblk m c 2 t) (iblk m c 4 t))
      (iblk m c 5 t))
    (fun d => iblk m c 5 t (ix3 0 0 d)) (iblk m c 6 t) (iblk m c 7 t) _ _ _ (fun d => norm_apply _ _ _ d)).trans ?_)
  unfold arr
  rw [e1]
  congr 1
  · exact funext fun d => read_mixed m c t _ d _ e0
  · exact funext fun d => read_g m c t d
  · exact funext fun d => funext fun j => read_w m c t d j
  · exact funext fun j => funext fun d => read_u m c t j d

end Cert.Proof.Mix

end
-- ==== Proof.MixRef.lean ====
/- The second feed-forward's reference, read at an index. -/
module

public import proofs.«01_k».proof.Proof.MixValue
public import proofs.«01_k».proof.Proof.Gen.MixRefIdeal.Read

@[expose] public section

set_option maxRecDepth 16384

noncomputable section

namespace Cert.Proof.MixRef

open Cert.MixRefIdeal Cert.MixRefIdeal.Read Cert.Proof.Ffn Cert.Proof.Mix Idealize.ShloMosaic Idealize.ShloMosaic.TcCoe

variable (x : Vec Ideal S32768x1024 .f32) (g : Vec Ideal S2x1024 .f32) (w : Vec Ideal S2x1024x5632 .f32)
  (u : Vec Ideal S2x2816x1024 .f32) (a b : Vec Ideal S32768x512 .bf16) (p : Vec Ideal S1024x1024 .f32)

/-- The left half of the concatenated attentions. -/
theorem left_apply (R : Fin 32768) (e : Fin 512) :
    val_main_v1 (F := Ideal) a b (ix2 R (Fin.castAdd 512 e)) = a (ix2 R e) := by
  pointwise [val_main_v1, val_main_v0]
  rw [dif_pos (show (Fin.castAdd 512 e).val < 512 from e.isLt)]
  rfl

/-- The right half of the concatenated attentions. -/
theorem right_apply (R : Fin 32768) (e : Fin 512) :
    val_main_v1 (F := Ideal) a b (ix2 R (Fin.natAdd 512 e)) = b (ix2 R e) := by
  pointwise [val_main_v1, val_main_v0]
  rw [dif_neg (show ¬ (Fin.natAdd 512 e).val < 512 from Nat.not_lt.mpr (Nat.le_add_right 512 e.val))]
  exact congrArg (fun i => b (ix2 R i)) (Fin.ext (Nat.add_sub_cancel_left 512 e.val))

/-- The mixed rows. -/
theorem mixed_apply (R : Fin 32768) (d : Fin 1024) :
    val_main_v3 (F := Ideal) x a b p (ix2 R d) = mixed x a b p (ix2 R d) := by
  have h : val_main_v3 (F := Ideal) x a b p (ix2 R d)
      = x (ix2 R d) + ∑ e : Fin (512 + 512), val_main_v1 (F := Ideal) a b (ix2 R e) * p (ix2 e d) := by
    pointwise [val_main_v3, val_main_v2]
  rw [h, Fin.sum_univ_add, ← add_assoc]
  simp only [left_apply, right_apply]
  rfl

/-- The normalized rows. -/
theorem norm_apply (R : Fin 32768) (d : Fin 1024) :
    val_main_v18 (F := Ideal) x g a b p (ix2 R d) = normRow (fun d => mixed x a b p (ix2 R d)) (fun d => g (ix2 0 d)) d := by
  simp only [← mixed_apply]
  unfold normRow
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]

/-- A column of the product with the first weights. -/
theorem up_apply (R : Fin 32768) (j : Fin 5632) : val_main_v23 (F := Ideal) x g w a b p (ix2 R j)
    = ∑ d, normRow (fun d => mixed x a b p (ix2 R d)) (fun d => g (ix2 0 d)) d * w (ix3 0 d j) := by
  simp only [← norm_apply]
  pointwise [val_main_v23, val_main_v20, val_main_v19]

/-- The hidden layer. -/
theorem hidden_apply (R : Fin 32768) (j : Fin 2816) : val_main_v27 (F := Ideal) x g w a b p (ix2 R j)
    = hiddenRow (normRow (fun d => mixed x a b p (ix2 R d)) (fun d => g (ix2 0 d))) (fun d j => w (ix3 0 d j)) j := by
  unfold hiddenRow act
  rw [← up_apply, ← up_apply]
  unfold Ideal.logistic
  pointwise [val_main_v27, val_main_v26, val_main_v25, val_main_v24, val_main_call0_v5, val_main_call0_v4, val_main_call0_v3,
    val_main_call0_v2, val_main_call0_v1, val_main_call0_v0, val_main_call0_cst, val_main_call0_cst_0]

/-- The reference's result. -/
theorem value : val_main_v31 (F := Ideal) x g w u a b p = arr (mixed x a b p) g w u 0 := by
  funext y
  have h0 : (y 0).val < 32768 := (y 0).isLt
  have h1 : (y 1).val < 1024 := (y 1).isLt
  obtain ⟨R, c, rfl⟩ : ∃ (R : Fin 32768) (c : Fin 1024), y = ix2 R c :=
    ⟨⟨(y 0).val, h0⟩, ⟨(y 1).val, h1⟩, funext fun a => by fin_cases a <;> rfl⟩
  show _ = row (fun d => mixed x a b p (ix2 R d)) (fun d => g (ix2 0 d)) (fun d j => w (ix3 0 d j)) (fun j c => u (ix3 0 j c)) c
  unfold row
  simp only [← hidden_apply]
  simp only [← mixed_apply]
  pointwise [val_main_v31, val_main_v30, val_main_v29, val_main_v28, val_main_v22, val_main_v21, val_main_cst_2]

end Cert.Proof.MixRef

end
-- ==== Proof.MixClaim.lean ====
/- The second feed-forward call and its reference end with equal results. -/
module

public import proofs.«01_k».proof.Defs
public import proofs.«01_k».proof.Proof.MixRef
public import proofs.«01_k».proof.Proof.Gen.MixRefIdeal.Run

@[expose] public section

set_option maxRecDepth 16384

noncomputable section

namespace Cert.Proof.Mix

open Cert.Proof.Ffn Idealize.ShloMosaic Idealize.SL.Sem

/-- From memories that agree on the arguments, the kernel and the reference end with the same feed-forward of the mixed rows. -/
theorem algebraic : Cert.algebraic_MixIdeal_MixRefIdeal := by
  intro m g m' g' _ hargs
  refine ⟨fun c => arr (mixed (m (c.tc.loc Cert.MixIdeal.main_arg0)) (m (c.tc.loc Cert.MixIdeal.main_arg4))
      (m (c.tc.loc Cert.MixIdeal.main_arg5)) (m (c.tc.loc Cert.MixIdeal.main_arg6))) (m (c.tc.loc Cert.MixIdeal.main_arg1))
    (m (c.tc.loc Cert.MixIdeal.main_arg2)) (m (c.tc.loc Cert.MixIdeal.main_arg3)) 0, ?_, ?_⟩
  · exact (θ_run _ _ _).mono (fun r h c => ⟨(h c).1.trans (final m c), (h c).2⟩) (Cert.MixIdeal.Value.run_blocks m g)
  · refine (θ_run _ _ _).mono (fun r h c => ⟨(h c).1.trans ?_, (h c).2⟩) (Cert.MixRefIdeal.Value.run m' g')
    rw [Cert.MixRefIdeal.Read.val_main_v31_eq, (hargs c).1, (hargs c).2.1, (hargs c).2.2.1, (hargs c).2.2.2.1, (hargs c).2.2.2.2.1,
      (hargs c).2.2.2.2.2.1, (hargs c).2.2.2.2.2.2]
    exact Cert.Proof.MixRef.value _ _ _ _ _ _ _

end Cert.Proof.Mix

end
-- ==== Proof.FinValue.lean ====
/- The last feed-forward's result array after the kernel's run: mixed in first, normalized last. -/
module

public import proofs.«01_k».proof.Proof.FfnValue
public import proofs.«01_k».proof.Proof.Gen.FinIdeal.Value

@[expose] public section

set_option maxRecDepth 16384

noncomputable section

namespace Cert.Proof.Fin

open Cert.FinIdeal Cert.FinIdeal.Gen Cert.Proof.Ffn Idealize.ShloMosaic Idealize.ShloMosaic.TcCoe Idealize.SL.Sem
open Idealize.ShloMosaic.Pipeline (Dat)

/-- The rows of `x` plus the rows of the layer's output times the mixing weights. -/
def mixed (x : Vec Ideal S32768x1024 .f32) (o : Vec Ideal S32768x1024 .bf16) (p : Vec Ideal S1024x1024 .f32) : Vec Ideal S32768x1024 .f32 :=
  fun y => x (ix2 (y 0) (y 1)) + ∑ e : Fin 1024, o (ix2 (y 0) e) * p (ix2 e (y 1))

/-- The array whose rows are the normalized rows of `z`. -/
def normed (z : Vec Ideal S32768x1024 .f32) (f : Vec Ideal S1024 .f32) (y : S32768x1024.Idx) : EReal :=
  normRow (fun d => z (ix2 (y 0) d)) (fun d => f (ix1 d)) (y 1)

/-- The mixed block, read at an index. -/
theorem mix_apply (x : Vec Ideal S1024x1024 .f32) (o p : Vec Ideal S1024x1024 .bf16) (r d : Fin 1024) :
    k0_pay2 (F := Ideal) x o p (ix2 r d) = x (ix2 r d) + ∑ e : Fin 1024, o (ix2 r e) * p (ix2 e d) := by
  pointwise [k0_pay2]

/-- The normalized result of a block, from the block before it is normalized. -/
theorem norm_last (x : Vec Ideal S1024x1024 .f32) (t : Vec Ideal S1024x2816 .bf16) (u : Vec Ideal S1x2816x1024 .bf16)
    (f : Vec Ideal S1x1024 .f32) (r d : Fin 1024) :
    k0_pay1 (F := Ideal) x t u f (ix2 r d) = normRow (fun d => Cert.FfnIdeal.Gen.k0_pay1 (F := Ideal) x
      (Cert.FfnIdeal.Gen.k0_pay16 t u) (FloatOps.ofBits .f32 0x3F000000#32) (ix2 r d)) (fun d => f (ix2 0 d)) d := by
  simp only [add_apply, down_apply]
  unfold normRow
  pointwise [k0_pay1]

/-- Where each window's block lies at grid point `t`. -/
theorem idx : ∀ t : Fin cfg0.N, win0_0.index t = ![t.val, 0] ∧ win0_1.index t = ![t.val, 0] ∧ win0_2.index t = ![0, 0]
    ∧ win0_3.index t = ![1, 0, 0] ∧ win0_4.index t = ![1, 0, 0] ∧ win0_5.index t = ![1, 0, 0] ∧ win0_6.index t = ![0, 0]
    ∧ win0_7.index t = ![t.val, 0] :=
  (by decide +kernel : ∀ t : Fin grid0.N, _)

variable (m : (ℓ : Loc nD τ sig) → Buf (Elt Ideal) ℓ)

/-- The rows of the block of `x` at grid point `t`. -/
theorem read_x (c : Dev nD) (t : Fin cfg0.N) (r d : Fin 1024) (R : Fin 32768) (hR : R.val = 1024 * t.val + r.val) :
    iblk m c 0 t (ix2 r d) = m ((c : Thread nD τ).loc main_arg0) (ix2 R d) := by
  obtain ⟨i0, -⟩ := idx t
  blk_simp [iblk, V]
  blk_ext [i0]

/-- The rows of the block of the layer's output. -/
theorem read_o (c : Dev nD) (t : Fin cfg0.N) (r d : Fin 1024) (R : Fin 32768) (hR : R.val = 1024 * t.val + r.val) :
    iblk m c 1 t (ix2 r d) = m ((c : Thread nD τ).loc main_arg4) (ix2 R d) := by
  obtain ⟨-, i1, -⟩ := idx t
  blk_simp [iblk, V]
  blk_ext [i1]

/-- The mixing weights. -/
theorem read_p (c : Dev nD) (t : Fin cfg0.N) (e d : Fin 1024) :
    iblk m c 2 t (ix2 e d) = m ((c : Thread nD τ).loc main_arg5) (ix2 e d) := by
  obtain ⟨-, -, i2, -⟩ := idx t
  blk_simp [iblk]
  entry_read
  pointwise
  blk_ext [i2]

/-- The block of gains. -/
theorem read_g (c : Dev nD) (t : Fin cfg0.N) (d : Fin 1024) :
    iblk m c 3 t (ix3 0 0 d) = m ((c : Thread nD τ).loc main_arg1) (ix2 1 d) := by
  obtain ⟨-, -, -, i3, -⟩ := idx t
  blk_simp [iblk]
  entry_read
  pointwise
  blk_ext [i3]

/-- The block of the first weights. -/
theorem read_w (c : Dev nD) (t : Fin cfg0.N) (d : Fin 1024) (j : Fin 5632) :
    iblk m c 4 t (ix3 0 d j) = m ((c : Thread nD τ).loc main_arg2) (ix3 1 d j) := by
  obtain ⟨-, -, -, -, i4, -⟩ := idx t
  blk_simp [iblk]
  entry_read
  pointwise
  blk_ext [i4]

/-- The block of the second weights. -/
theorem read_u (c : Dev nD) (t : Fin cfg0.N) (j : Fin 2816) (d : Fin 1024) :
    iblk m c 5 t (ix3 0 j d) = m ((c : Thread nD τ).loc main_arg3) (ix3 1 j d) := by
  obtain ⟨-, -, -, -, -, i5, -⟩ := idx t
  blk_simp [iblk]
  entry_read
  pointwise
  blk_ext [i5]

/-- The final gains. -/
theorem read_f (c : Dev nD) (t : Fin cfg0.N) (d : Fin 1024) :
    iblk m c 6 t (ix2 0 d) = m ((c : Thread nD τ).loc main_arg6) (ix1 d) := by
  obtain ⟨-, -, -, -, -, -, i6, -⟩ := idx t
  blk_simp [iblk]
  entry_read
  pointwise
  blk_ext [i6]

/-- The mixed block at grid point `t`, read at an index. -/
theorem read_mixed (c : Dev nD) (t : Fin cfg0.N) (r d : Fin 1024) (R : Fin 32768) (hR : R.val = 1024 * t.val + r.val) :
    k0_pay2 (F := Ideal) (iblk m c 0 t) (iblk m c 1 t) (iblk m c 2 t) (ix2 r d)
      = mixed (m ((c : Thread nD τ).loc main_arg0)) (m ((c : Thread nD τ).loc main_arg4)) (m ((c : Thread nD τ).loc main_arg5)) (ix2 R d) := by
  refine (mix_apply _ _ _ r d).trans ?_
  refine congrArg₂ (· + ·) (read_x m c t r d R hR) ?_
  exact Finset.sum_congr rfl fun e _ => congrArg₂ (· * ·) (read_o m c t r e R hR) (read_p m c t e d)

/-- The result array after the run is the normalized feed-forward of the mixed rows. -/
theorem final (c : Dev nD) : (dats m 0 c).arrAt 7 cfg0.N = normed (arr (mixed (m ((c : Thread nD τ).loc main_arg0))
      (m ((c : Thread nD τ).loc main_arg4)) (m ((c : Thread nD τ).loc main_arg5)))
    (m ((c : Thread nD τ).loc main_arg1)) (m ((c : Thread nD τ).loc main_arg2)) (m ((c : Thread nD τ).loc main_arg3)) 1)
    (m ((c : Thread nD τ).loc main_arg6)) := by
  refine (dats m 0 c).arrAt_eq_of_covers 7 _ (by decide +kernel) fun t _ y => ?_
  blk_simp
  rw [after0_7]
  unfold outsAt0
  frame_out
  have h0 : (y 0).val < 1024 := (y 0).isLt
  have h1 : (y 1).val < 1024 := (y 1).isLt
  obtain ⟨-, -, -, -, -, -, -, i7⟩ := idx t
  have ey : y = ix2 ⟨(y 0).val, h0⟩ ⟨(y 1).val, h1⟩ := funext fun a => by fin_cases a <;> rfl
  have e0 : (((View.whole main_v5).slice (win0_7.rect t)).emb y 0).val = 1024 * t.val + (y 0).val := by
    blk_simp [i7]
    omega
  have e1 : ((View.whole main_v5).slice (win0_7.rect t)).emb y 1 = (⟨(y 1).val, h1⟩ : Fin 1024) := by
    refine Fin.ext ?_
    blk_simp [i7]
  refine (congrArg _ ey).trans ((norm_last _ _ _ _ _ _).trans ?_)
  unfold normed
  rw [e1]
  refine congrArg₂ (fun a b => normRow a b _) (funext fun d => ?_) (funext fun d => read_f m c t d)
  refine (point_apply (View.whole cc0_scratch0)
    (k0_pay2 (F := Ideal) (iblk m c 0 t) (iblk m c 1 t) (iblk m c 2 t))
    (Cert.FfnIdeal.Gen.k0_pay2 (F := Ideal) (k0_pay2 (F := Ideal) (iblk m c 0 t) (iblk m c 1 t) (iblk m c 2 t)) (iblk m c 3 t))
    (fun d => iblk m c 3 t (ix3 0 0 d)) (iblk m c 4 t) (iblk m c 5 t) _ _ _ (fun d => norm_apply _ _ _ d)).trans ?_
  unfold arr
  refine congr (congr (congr (congr (congrArg row ?_) ?_) ?_) ?_) rfl
  · exact funext fun d => read_mixed m c t _ d _ e0
  · exact funext fun d => read_g m c t d
  · exact funext fun d => funext fun j => read_w m c t d j
  · exact funext fun j => funext fun d => read_u m c t j d

end Cert.Proof.Fin

end
-- ==== Proof.FinRef.lean ====
/- The last feed-forward's reference, read at an index. -/
module

public import proofs.«01_k».proof.Proof.FinValue
public import proofs.«01_k».proof.Proof.Gen.FinRefIdeal.Read

@[expose] public section

set_option maxRecDepth 16384

noncomputable section

namespace Cert.Proof.FinRef

open Cert.FinRefIdeal Cert.FinRefIdeal.Read Cert.Proof.Ffn Cert.Proof.Fin Idealize.ShloMosaic Idealize.ShloMosaic.TcCoe

variable (x : Vec Ideal S32768x1024 .f32) (g : Vec Ideal S2x1024 .f32) (w : Vec Ideal S2x1024x5632 .f32)
  (u : Vec Ideal S2x2816x1024 .f32) (o : Vec Ideal S32768x1024 .bf16) (p : Vec Ideal S1024x1024 .f32) (f : Vec Ideal S1024 .f32)

/-- The mixed rows. -/
theorem mixed_apply (R : Fin 32768) (d : Fin 1024) :
    val_main_v2 (F := Ideal) x o p (ix2 R d) = mixed x o p (ix2 R d) := by
  show _ = x (ix2 R d) + ∑ e : Fin 1024, o (ix2 R e) * p (ix2 e d)
  pointwise [val_main_v2, val_main_v1, val_main_v0]

/-- The normalized rows. -/
theorem norm_apply (R : Fin 32768) (d : Fin 1024) :
    val_main_v17 (F := Ideal) x g o p (ix2 R d) = normRow (fun d => mixed x o p (ix2 R d)) (fun d => g (ix2 1 d)) d := by
  simp only [← mixed_apply]
  unfold normRow
  pointwise [val_main_v17, val_main_v16, val_main_v15, val_main_v14, val_main_v13, val_main_v12, val_main_v11, val_main_v10,
    val_main_v9, val_main_v8, val_main_v7, val_main_v6, val_main_v5, val_main_v4, val_main_v3, val_main_cst, val_main_cst_0, val_main_cst_1]

/-- A column of the product with the first weights. -/
theorem up_apply (R : Fin 32768) (j : Fin 5632) : val_main_v22 (F := Ideal) x g w o p (ix2 R j)
    = ∑ d, normRow (fun d => mixed x o p (ix2 R d)) (fun d => g (ix2 1 d)) d * w (ix3 1 d j) := by
  simp only [← norm_apply]
  pointwise [val_main_v22, val_main_v19, val_main_v18]

/-- The hidden layer. -/
theorem hidden_apply (R : Fin 32768) (j : Fin 2816) : val_main_v26 (F := Ideal) x g w o p (ix2 R j)
    = hiddenRow (normRow (fun d => mixed x o p (ix2 R d)) (fun d => g (ix2 1 d))) (fun d j => w (ix3 1 d j)) j := by
  unfold hiddenRow act
  rw [← up_apply, ← up_apply]
  unfold Ideal.logistic
  pointwise [val_main_v26, val_main_v25, val_main_v24, val_main_v23, val_main_call0_v5, val_main_call0_v4, val_main_call0_v3,
    val_main_call0_v2, val_main_call0_v1, val_main_call0_v0, val_main_call0_cst, val_main_call0_cst_0]

/-- The rows before the last normalization. -/
theorem row_apply (R : Fin 32768) (c : Fin 1024) : val_main_v30 (F := Ideal) x g w u o p (ix2 R c) = arr (mixed x o p) g w u 1 (ix2 R c) := by
  show _ = row (fun d => mixed x o p (ix2 R d)) (fun d => g (ix2 1 d)) (fun d j => w (ix3 1 d j)) (fun j c => u (ix3 1 j c)) c
  unfold row
  simp only [← hidden_apply]
  simp only [← mixed_apply]
  pointwise [val_main_v30, val_main_v29, val_main_v28, val_main_v27, val_main_v21, val_main_v20, val_main_cst_2]

/-- The reference's result. -/
theorem value : val_main_v43 (F := Ideal) x g w u o p f = normed (arr (mixed x o p) g w u 1) f := by
  funext y
  have h0 : (y 0).val < 32768 := (y 0).isLt
  have h1 : (y 1).val < 1024 := (y 1).isLt
  obtain ⟨R, c, rfl⟩ : ∃ (R : Fin 32768) (c : Fin 1024), y = ix2 R c :=
    ⟨⟨(y 0).val, h0⟩, ⟨(y 1).val, h1⟩, funext fun a => by fin_cases a <;> rfl⟩
  show _ = normRow (fun d => arr (mixed x o p) g w u 1 (ix2 R d)) (fun d => f (ix1 d)) c
  simp only [← row_apply]
  unfold normRow
  pointwise [val_main_v43, val_main_v42, val_main_v41, val_main_v40, val_main_v39, val_main_v38, val_main_v37, val_main_v36, val_main_v35,
    val_main_v34, val_main_v33, val_main_v32, val_main_v31, val_main_cst_3, val_main_cst_4, val_main_cst_5]

end Cert.Proof.FinRef

end
-- ==== Proof.FinClaim.lean ====
/- The last feed-forward call and its reference end with equal results. -/
module

public import proofs.«01_k».proof.Defs
public import proofs.«01_k».proof.Proof.FinRef
public import proofs.«01_k».proof.Proof.Gen.FinRefIdeal.Run

@[expose] public section

set_option maxRecDepth 16384

noncomputable section

namespace Cert.Proof.Fin

open Cert.Proof.Ffn Idealize.ShloMosaic Idealize.SL.Sem

/-- From memories that agree on the arguments, the kernel and the reference end with the same normalized feed-forward of the mixed rows. -/
theorem algebraic : Cert.algebraic_FinIdeal_FinRefIdeal := by
  intro m g m' g' _ hargs
  refine ⟨fun c => normed (arr (mixed (m (c.tc.loc Cert.FinIdeal.main_arg0)) (m (c.tc.loc Cert.FinIdeal.main_arg4))
      (m (c.tc.loc Cert.FinIdeal.main_arg5))) (m (c.tc.loc Cert.FinIdeal.main_arg1)) (m (c.tc.loc Cert.FinIdeal.main_arg2))
    (m (c.tc.loc Cert.FinIdeal.main_arg3)) 1) (m (c.tc.loc Cert.FinIdeal.main_arg6)), ?_, ?_⟩
  · exact (θ_run _ _ _).mono (fun r h c => ⟨(h c).1.trans (final m c), (h c).2⟩) (Cert.FinIdeal.Value.run_blocks m g)
  · refine (θ_run _ _ _).mono (fun r h c => ⟨(h c).1.trans ?_, (h c).2⟩) (Cert.FinRefIdeal.Value.run m' g')
    rw [Cert.FinRefIdeal.Read.val_main_v43_eq, (hargs c).1, (hargs c).2.1, (hargs c).2.2.1, (hargs c).2.2.2.1, (hargs c).2.2.2.2.1,
      (hargs c).2.2.2.2.2.1, (hargs c).2.2.2.2.2.2]
    exact Cert.Proof.FinRef.value _ _ _ _ _ _ _

end Cert.Proof.Fin

end
-- ==== Proof.GinRef.lean ====
/- The reference of the feed-forward overlapped with the delta net's input, read at an index. -/
module

public import proofs.«01_k».proof.Proof.FfnValue
public import proofs.«01_k».proof.Proof.Gen.GinRefIdeal.Read

@[expose] public section

set_option maxRecDepth 16384

noncomputable section

namespace Cert.Proof.GinRef

open Cert.GinRefIdeal Cert.GinRefIdeal.Read Cert.Proof.Ffn Idealize.ShloMosaic Idealize.ShloMosaic.TcCoe

variable (x : Vec Ideal S32768x1024 .f32) (g : Vec Ideal S2x1024 .f32) (w : Vec Ideal S2x1024x5632 .f32)
  (u : Vec Ideal S2x2816x1024 .f32)

/-- The normalized rows. -/
theorem norm_apply (R : Fin 32768) (d : Fin 1024) :
    val_main_v14 (F := Ideal) x g (ix2 R d) = normRow (fun d => x (ix2 R d)) (fun d => g (ix2 1 d)) d := by
  unfold normRow
  pointwise [val_main_v14, val_main_v13, val_main_v12, val_main_v11, val_main_v10, val_main_v9, val_main_v8, val_main_v7,
    val_main_cst_1, val_main_v6, val_main_v5, val_main_cst_0, val_main_v4, val_main_v3, val_main_cst, val_main_v2, val_main_v1, val_main_v0]

/-- A column of the product with the first weights. -/
theorem up_apply (R : Fin 32768) (j : Fin 5632) : val_main_v19 (F := Ideal) x g w (ix2 R j)
    = ∑ d, normRow (fun d => x (ix2 R d)) (fun d => g (ix2 1 d)) d * w (ix3 1 d j) := by
  simp only [← norm_apply]
  pointwise [val_main_v19, val_main_v16, val_main_v15]

/-- The hidden layer. -/
theorem hidden_apply (R : Fin 32768) (j : Fin 2816) : val_main_v23 (F := Ideal) x g w (ix2 R j)
    = hiddenRow (normRow (fun d => x (ix2 R d)) (fun d => g (ix2 1 d))) (fun d j => w (ix3 1 d j)) j := by
  unfold hiddenRow act
  rw [← up_apply, ← up_apply]
  unfold Ideal.logistic
  pointwise [val_main_v23, val_main_v22, val_main_v21, val_main_v20, val_main_call0_v5, val_main_call0_v4, val_main_call0_v3,
    val_main_call0_v2, val_main_call0_v1, val_main_call0_v0, val_main_call0_cst, val_main_call0_cst_0]

/-- The reference's result. -/
theorem value : val_main_v27 (F := Ideal) x g w u = arr x g w u 1 := by
  funext y
  have h0 : (y 0).val < 32768 := (y 0).isLt
  have h1 : (y 1).val < 1024 := (y 1).isLt
  obtain ⟨R, c, rfl⟩ : ∃ (R : Fin 32768) (c : Fin 1024), y = ix2 R c :=
    ⟨⟨(y 0).val, h0⟩, ⟨(y 1).val, h1⟩, funext fun a => by fin_cases a <;> rfl⟩
  show _ = row (fun d => x (ix2 R d)) (fun d => g (ix2 1 d)) (fun d j => w (ix3 1 d j)) (fun j c => u (ix3 1 j c)) c
  unfold row
  simp only [← hidden_apply]
  pointwise [val_main_v27, val_main_v26, val_main_v25, val_main_v24, val_main_v18, val_main_v17, val_main_cst_2]

end Cert.Proof.GinRef

end
-- ==== Proof.GinIdealRun.lean ====
module

public import proofs.«01_k».proof.Proof.Gen.GinIdeal.Skeleton
public import proofs.«01_k».proof.Proof.Gen.GinIdeal.Frame

@[expose] public section

set_option maxRecDepth 16384

noncomputable section

namespace Cert.Proof.GinIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.GinIdeal Cert.GinIdeal.Gen

variable {F : FTy → Type} [FloatOps F]

local notation "𝕄" => MT nD τ sig Unit (Elt F) ℕ (UR sig nD τ) ℕ

/-! # One step of the feed-forward call that also prepares the delta net's inputs

The body is run once, whatever the two scratch buffers that it carries from step to step hold: the tile of the feed-forward that
it stores does not depend on them. Of the other six result tiles nothing is said. -/

set_option maxHeartbeats 4000000 in
/-- The pieces that one step stores into the feed-forward's tile, with the proof that it stores them: the inputs' buffers hold
    `x0` … `x8` before and after, every other buffer holds anything before and something after. -/
noncomputable def bodyRun (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x4224 .bf16) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S16x512 .f32) (harg16 : arg16.IsWhole) (arg17 : Memref sig .tc .vmem S512x2816 .bf16) (harg17 : arg17.IsWhole) (arg18 : Memref sig .tc .vmem S512x1024 .bf16) (harg18 : arg18.IsWhole) (arg19 : Memref sig .tc .vmem S8x3072 .f32) (harg19 : arg19.IsWhole)
    (x0 : Vec F S512x1024 .f32) (x1 : Vec F S1x1x1024 .f32) (x2 : Vec F S1x1024x5632 .bf16) (x3 : Vec F S1x2816x1024 .bf16) (x4 : Vec F S1x1024 .f32) (x5 : Vec F S1024x4224 .bf16) (x6 : Vec F S4x3072 .f32) (x7 : Vec F S1x128 .f32) (x8 : Vec F S1x128 .f32) :
    { L : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_ffn_gdn_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_ffn_gdn_in_eq_skeleton]; unfold cc0_ffn_gdn_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    isplitl [H17]
    · iexists _; iexists _; isplitr
      swap; · iexact H17
      ipureintro; rfl
    iexists _; iexists _; isplitr
    swap; · iexact H18
    ipureintro; rfl

end Cert.Proof.GinIdealRun

end
-- ==== Proof.GinTile.lean ====
/- What a grid point of the feed-forward overlapped with the delta net's input computes for the feed-forward. -/
module

public import proofs.«01_k».proof.Proof.FfnRow
public import proofs.«01_k».proof.Proof.GinIdealRun
public import Idealize.ShloMosaic.Lib.Pipeline.ValueKit

@[expose] public section

set_option maxRecDepth 16384

noncomputable section

namespace Cert.Proof.Gin

open Cert.GinIdeal Cert.GinIdeal.Gen Cert.Proof.Ffn Idealize.ShloMosaic Idealize.ShloMosaic.TcCoe

/-- The normalized block, read at an index. -/
theorem norm_apply (x : Vec Ideal S512x1024 .f32) (g : Vec Ideal S1x1x1024 .f32) (r : Fin 512) (d : Fin 1024) :
    k0_pay4 (F := Ideal) x g (ix2 r d) = normRow (fun d => x (ix2 r d)) (fun d => g (ix3 0 0 d)) d := by
  unfold normRow
  pointwise [k0_pay4]

/-- A chunk of the hidden layer, read at an index. -/
theorem chunk_apply (h : Vec Ideal S512x1024 .bf16) (a b : Vec Ideal S1x1024x256 .bf16) (r : Fin 512) (j : Fin 256) :
    k0_pay5 (F := Ideal) h a b (ix2 r j)
      = act (fun d => h (ix2 r d)) (fun d => a (ix3 0 d j)) (fun d => b (ix3 0 d j)) := by
  unfold act
  pointwise [k0_pay5]

/-- Half of the product of the hidden layer and the second weights, added to the block. -/
theorem down_apply (x : Vec Ideal S512x1024 .f32) (t : Vec Ideal S512x2816 .bf16) (u : Vec Ideal S1x2816x1024 .bf16) (r : Fin 512) (c : Fin 1024) :
    k0_pay86 (F := Ideal) x t u (ix2 r c) = x (ix2 r c) + Ideal.ofBits .f32 0x3F000000#32 * ∑ j, t (ix2 r j) * u (ix3 0 j c) := by
  pointwise [k0_pay86]

/-- Chunk `i` of the hidden layer as it is stored: columns `256 i` to `256 i + 255`. -/
def piece (h : Vec Ideal S512x1024 .bf16) (w : Vec Ideal S1x1024x5632 .bf16) (i : ℕ) (hi : i < 11) :
    View.Piece (Elt Ideal) S512x2816 .bf16 :=
  ⟨Rect.unit (s := S512x2816) ![0, 256 * i] ![512, 256] (by intro a; fin_cases a <;> simp [S512x2816] <;> omega),
    k0_pay5 (F := Ideal) h
      (View.ld w (Rect.unit (s := S1x1024x5632) ![0, 0, 256 * i] ![1, 1024, 256] (by intro a; fin_cases a <;> simp [S1x1024x5632] <;> omega)))
      (View.ld w (Rect.unit (s := S1x1024x5632) ![0, 0, 2816 + 256 * i] ![1, 1024, 256] (by intro a; fin_cases a <;> simp [S1x1024x5632] <;> omega)))⟩

/-- The eleven chunks, the last stored first. -/
def pieces (h : Vec Ideal S512x1024 .bf16) (w : Vec Ideal S1x1024x5632 .bf16) : List (View.Piece (Elt Ideal) S512x2816 .bf16) :=
  [piece h w 10 (by omega), piece h w 9 (by omega), piece h w 8 (by omega), piece h w 7 (by omega), piece h w 6 (by omega),
    piece h w 5 (by omega), piece h w 4 (by omega), piece h w 3 (by omega), piece h w 2 (by omega), piece h w 1 (by omega),
    piece h w 0 (by omega)]

/-- Every chunk holds its columns of the hidden layer. -/
theorem piece_apply (h : Vec Ideal S512x1024 .bf16) (w : Vec Ideal S1x1024x5632 .bf16) (i : ℕ) (hi : i < 11)
    (x : (piece h w i hi).1.shape.Idx) : (piece h w i hi).2 x
      = hiddenRow (fun d => h (ix2 ((piece h w i hi).1.emb x 0) d)) (fun d j => w (ix3 0 d j)) ((piece h w i hi).1.emb x 1) := by
  have h0 : (x 0).val < 512 := (x 0).isLt
  have h1 : (x 1).val < 256 := (x 1).isLt
  have ex : x = ix2 ⟨(x 0).val, h0⟩ ⟨(x 1).val, h1⟩ := funext fun a => by fin_cases a <;> rfl
  have e0 : (piece h w i hi).1.emb x 0 = (⟨(x 0).val, h0⟩ : Fin 512) :=
    Fin.ext ((Nat.zero_add _).trans (Nat.one_mul _))
  have e1 : ((piece h w i hi).1.emb x 1).val = 256 * i + (x 1).val := congrArg (256 * i + ·) (Nat.one_mul _)
  rw [e0]
  show k0_pay5 (F := Ideal) h _ _ x = _
  refine (congrArg (k0_pay5 (F := Ideal) h _ _) ex).trans ((chunk_apply _ _ _ _ _).trans ?_)
  refine congrArg₂ (act _) (funext fun d => congrArg w (funext fun a => Fin.ext ?_))
    (funext fun d => congrArg w (funext fun a => Fin.ext ?_))
  all_goals
    fin_cases a
    · rfl
    · exact (Nat.zero_add _).trans (Nat.one_mul _)
  · exact (congrArg (256 * i + ·) (Nat.one_mul _)).trans e1.symm
  · refine (congrArg (2816 + 256 * i + ·) (Nat.one_mul _)).trans ?_
    show 2816 + 256 * i + (x 1).val = 2816 + ((piece h w i hi).1.emb x 1).val
    rw [e1, Nat.add_assoc]

/-- The hidden layer read back from its chunks. -/
theorem pieces_apply (h : Vec Ideal S512x1024 .bf16) (w : Vec Ideal S1x1024x5632 .bf16) (y : S512x2816.Idx) :
    View.canon (pieces h w) y = hiddenRow (fun d => h (ix2 (y 0) d)) (fun d j => w (ix3 0 d j)) (y 1) := by
  refine View.canon_apply_of_pieces (Val := Elt Ideal) (e := .bf16)
    (fun y => hiddenRow (fun d => h (ix2 (y 0) d)) (fun d j => w (ix3 0 d j)) (y 1)) _ (fun p hp j => ?_) y ?_
  · simp only [pieces, List.mem_cons, List.mem_nil_iff, or_false] at hp
    rcases hp with rfl | rfl | rfl | rfl | rfl | rfl | rfl | rfl | rfl | rfl | rfl <;> exact piece_apply h w _ _ j
  · exact View.cover_of_tiledL (pieces h w) ![512, 256] (by sl_kernel_rfl) y

/-- The hidden layer loaded whole from the buffer of the chunks. -/
theorem load_apply {sg : RefSig} {κ : Kind} {sp : Space} (v : View sg κ sp S512x2816 .bf16) (h : Vec Ideal S512x1024 .bf16)
    (w : Vec Ideal S1x1024x5632 .bf16) (inb) (r : Fin 512) (j : Fin 2816) :
    v.readCov (pieces h w) (Rect.unit (s := S512x2816) ![0, 0] ![512, 2816] inb).toLoadRect (ix2 r j)
      = hiddenRow (fun d => h (ix2 r d)) (fun d j => w (ix3 0 d j)) j := by
  rw [View.readCov_eq_canon']
  refine (congrArg (View.canon (pieces h w)) (funext fun a => Fin.ext ?_ : _ = ix2 r j)).trans (pieces_apply h w (ix2 r j))
  fin_cases a <;> exact (Nat.zero_add _).trans (Nat.one_mul _)

/-- The feed-forward of a block with the hidden layer's input `h`. -/
theorem point_apply {sg : RefSig} {κ : Kind} {sp : Space} (v : View sg κ sp S512x2816 .bf16) (x : Vec Ideal S512x1024 .f32)
    (h : Vec Ideal S512x1024 .bf16) (g : Fin 1024 → EReal)
    (w : Vec Ideal S1x1024x5632 .bf16) (u : Vec Ideal S1x2816x1024 .bf16) (inb) (r : Fin 512) (c : Fin 1024)
    (e : ∀ d, h (ix2 r d) = normRow (fun d => x (ix2 r d)) g d) :
    k0_pay86 (F := Ideal) x (v.readCov (pieces h w) (Rect.unit (s := S512x2816) ![0, 0] ![512, 2816] inb).toLoadRect) u (ix2 r c)
      = row (fun d => x (ix2 r d)) g (fun d j => w (ix3 0 d j)) (fun j c => u (ix3 0 j c)) c := by
  rw [down_apply]
  simp only [load_apply, e]
  rfl

end Cert.Proof.Gin

end
-- ==== Proof.GinIdealFrame.lean ====
module

public import proofs.«01_k».proof.Proof.GinIdealRun
public import Idealize.ShloMosaic.Lib.Claim

@[expose] public section

set_option maxRecDepth 16384

noncomputable section

namespace Cert.Proof.GinIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.GinIdeal Cert.GinIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of one step tile the feed-forward's tile. -/
theorem bodyRun_cover (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x4224 .bf16) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S16x512 .f32) (harg16 : arg16.IsWhole) (arg17 : Memref sig .tc .vmem S512x2816 .bf16) (harg17 : arg17.IsWhole) (arg18 : Memref sig .tc .vmem S512x1024 .bf16) (harg18 : arg18.IsWhole) (arg19 : Memref sig .tc .vmem S8x3072 .f32) (harg19 : arg19.IsWhole)
    (x0 : Vec F S512x1024 .f32) (x1 : Vec F S1x1x1024 .f32) (x2 : Vec F S1x1024x5632 .bf16) (x3 : Vec F S1x2816x1024 .bf16) (x4 : Vec F S1x1024 .f32) (x5 : Vec F S1024x4224 .bf16) (x6 : Vec F S4x3072 .f32) (x7 : Vec F S1x128 .f32) (x8 : Vec F S1x128 .f32) (y : S512x1024.Idx) :
    ∃ p ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1, y ∈ p.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1 S512x1024.size (by sl_kernel_rfl) y

/-- The view through which the feed-forward's tile is read. -/
abbrev tileView : View sig .tc .vmem S512x1024 .f32 := (Memref.whole cc0_stg9_0 : Memref sig .tc .vmem S512x1024 .f32).view

/-- The feed-forward's tile after one step, from the blocks of the nine inputs. -/
def tileOf (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x4224 .bf16) (harg6 : arg6.IsWhole) (arg7 : Memref sig .tc .vmem S4x3072 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S16x512 .f32) (harg16 : arg16.IsWhole) (arg17 : Memref sig .tc .vmem S512x2816 .bf16) (harg17 : arg17.IsWhole) (arg18 : Memref sig .tc .vmem S512x1024 .bf16) (harg18 : arg18.IsWhole) (arg19 : Memref sig .tc .vmem S8x3072 .f32) (harg19 : arg19.IsWhole)
    (x0 : Vec F S512x1024 .f32) (x1 : Vec F S1x1x1024 .f32) (x2 : Vec F S1x1024x5632 .bf16) (x3 : Vec F S1x2816x1024 .bf16) (x4 : Vec F S1x1024 .f32) (x5 : Vec F S1024x4224 .bf16) (x6 : Vec F S4x3072 .f32) (x7 : Vec F S1x128 .f32) (x8 : Vec F S1x128 .f32) : Vec F S512x1024 .f32 :=
  tileView.read (Elt F) (tileView.writes (Elt F) tileView.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1)

/-- The feed-forward's tile after step `t` of the call. -/
def tileAt (c : Dev nD) (t : Fin cfg0.N) : Vec F S512x1024 .f32 :=
  tileOf c (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) ((cfg0.win 9).stage (cfg0.slots t 9)) (hstage0_9 ((cfg0.slots t 9).cast nbuf0_9)) ((cfg0.win 10).stage (cfg0.slots t 10)) (hstage0_10 ((cfg0.slots t 10).cast nbuf0_10)) ((cfg0.win 11).stage (cfg0.slots t 11)) (hstage0_11 ((cfg0.slots t 11).cast nbuf0_11)) ((cfg0.win 12).stage (cfg0.slots t 12)) (hstage0_12 ((cfg0.slots t 12).cast nbuf0_12)) ((cfg0.win 13).stage (cfg0.slots t 13)) (hstage0_13 ((cfg0.slots t 13).cast nbuf0_13)) ((cfg0.win 14).stage (cfg0.slots t 14)) (hstage0_14 ((cfg0.slots t 14).cast nbuf0_14)) ((cfg0.win 15).stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t)

/-- What the call's windows hold after each step: an input its block, the feed-forward's tile what the step stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tileAt m c t
    | ⟨10, _⟩ => fun _ => Classical.arbitrary _
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨k + 16, h⟩ => absurd (show k + 16 < 16 from h) (by omega)
  Φ _ := Pipeline.ΦA spec0 c
  q _ := fullShare
  owed _ := 0

/-- The six result windows of which nothing is said. -/
def unsaid (w : Fin cfg0.W) : Bool := decide (9 < w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = tileAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The scratch buffers as whole buffers held at something. -/
theorem scratch_eq (c : Dev nD) :
    (Pipeline.ΦA spec0 c : sProp 𝕄)
      = iprop(((∃ d, owns (c : Thread nD τ) (Memref.whole cc0_scratch0 : Memref sig .tc .vmem S512x2816 .bf16) fullShare d)
        ∗ (∃ d, owns (c : Thread nD τ) (Memref.whole cc0_scratch1 : Memref sig .tc .vmem S512x1024 .bf16) fullShare d)
        ∗ (∃ d, owns (c : Thread nD τ) (Memref.whole cc0_scratch2 : Memref sig .tc .vmem S8x3072 .f32) fullShare d)) ∗ (∃ r, prngReg c r)) := by
  unfold Pipeline.ΦA; rw [scopedRest0_eq]; simp only [owns_whole]; try rfl

/-- What step `t` is started with. -/
def stepPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ X, owns (c : Thread nD τ) ((cfg0.win 10).stage (cfg0.slots t 10)) fullShare X)
    ∗ (∃ X, owns (c : Thread nD τ) ((cfg0.win 11).stage (cfg0.slots t 11)) fullShare X)
    ∗ (∃ X, owns (c : Thread nD τ) ((cfg0.win 12).stage (cfg0.slots t 12)) fullShare X)
    ∗ (∃ X, owns (c : Thread nD τ) ((cfg0.win 13).stage (cfg0.slots t 13)) fullShare X)
    ∗ (∃ X, owns (c : Thread nD τ) ((cfg0.win 14).stage (cfg0.slots t 14)) fullShare X)
    ∗ (∃ X, owns (c : Thread nD τ) ((cfg0.win 15).stage (cfg0.slots t 15)) fullShare X))

/-- What step `t` leaves. -/
def stepPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ (∃ X, owns (c : Thread nD τ) ((cfg0.win 10).stage (cfg0.slots t 10)) fullShare X)
    ∗ (∃ X, owns (c : Thread nD τ) ((cfg0.win 11).stage (cfg0.slots t 11)) fullShare X)
    ∗ (∃ X, owns (c : Thread nD τ) ((cfg0.win 12).stage (cfg0.slots t 12)) fullShare X)
    ∗ (∃ X, owns (c : Thread nD τ) ((cfg0.win 13).stage (cfg0.slots t 13)) fullShare X)
    ∗ (∃ X, owns (c : Thread nD τ) ((cfg0.win 14).stage (cfg0.slots t 14)) fullShare X)
    ∗ (∃ X, owns (c : Thread nD τ) ((cfg0.win 15).stage (cfg0.slots t 15)) fullShare X))

set_option maxHeartbeats 4000000 in
/-- Every step does what `stepPre` and `stepPost` say. -/
theorem step (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, scratch_eq]
  unfold tileAt tileOf
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, ⟨%e9, H9⟩, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (bodyRun_cover c _ _ _ _ _ _ _ _ _ _ _ _ _ _ _ _ _ _ _ _ _ _ _ _ _ _ _ _ _ _ _ _ _ _ _ _ _ _ _ _ _ _ _ _ _ _ _ _)
  isplitl [H10]; · iexact H10
  isplitl [H11]; · iexact H11
  isplitl [H12]; · iexact H12
  isplitl [H13]; · iexact H13
  isplitl [H14]; · iexact H14
  iexact H15

theorem row_eq (t : Fin cfg0.N) :
    defs₀ (F := F) .tc cfg0.body (cfg0.bodyArgs t (cfg0.slots t)) = bodyAt0 t := by
  unfold defs₀; rw [Defs.onTc_tc]

theorem steps (c : Dev nD) : BodyObligationLoose (dats (F := F) m 0 c) (defs₀ (F := F)) Variants.none () Set.univ unsaid := fun t => by
  rw [bigSep_W0, bigSep_W0, row_eq]
  exact triple_restated (step m c t) rfl .rfl fun _ => .rfl

set_option backward.isDefEq.respectTransparency.types false in
/-- Every run ends with the arrays as the steps leave them and every counter at zero. -/
theorem run_main : θ_run defs (onTc (τ := τ) (main (F := F))) (s₀ m ρ)
    (fun r => RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => steps m c) (hshare := fun c => (dats m 0 c).share_full fun _ => rfl)
    (howed := fun _ _ => rfl) (V := V m) (hmain := hmain m Variants.none) (hA := A_eq m) (hΦ := fun _ _ => rfl) (hQ' := fun _ h => h)

/-- A window of which something is said holds at the end what the steps leave in it. -/
theorem said {Λ : Labels} {cfg₁ : Cfg sig Λ} (dat : (c : Dev nD) → Dat τ (Elt F) Unit ℕ (UR sig nD τ) ℕ cfg₁ c) (un : Fin cfg₁.W → Bool)
    {W : (c : Dev nD) → (b : Ref sig .tc) → Buf (Elt F) ((c.tc : Thread nD τ).loc b)} {r : PUnit × MemSt nD τ sig (Elt F)}
    (h : RDat.FramePost cfg₁ (fun c => (dat c).toRForget un) W r) (c : Dev nD) (w : Fin cfg₁.W) (hf : un w = false) :
    r.2.mem ((cfg₁.spec w).arr.view.loc (c.tc : Thread nD τ)) = (dat c).arrAt w cfg₁.N :=
  ((dat c).toRForget_arrAt_iff hf _ _).1 ((h c).1 w)

/-- Every run ends with the feed-forward's array as the steps leave it, the argument arrays unchanged and every counter at zero. -/
theorem run : θ_run defs (onTc (τ := τ) (main (F := F))) ⟨m, fun _ => 0, ρ⟩ (fun r => (∀ c : Dev nD,
      r.2.mem ((c.tc : Thread nD τ).loc main_v25_0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨said (dats m 0) unsaid h.1 c 9 (by decide),
      (said (dats m 0) unsaid h.1 c 0 (by decide)).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.Proof.GinIdealRun

end
-- ==== Proof.GinValue.lean ====
/- The array of the feed-forward overlapped with the delta net's input, after the kernel's run. -/
module

public import proofs.«01_k».proof.Proof.FfnValue
public import proofs.«01_k».proof.Proof.GinTile
public import proofs.«01_k».proof.Proof.GinIdealFrame
public import Idealize.ShloMosaic.Lib.Claim

@[expose] public section

set_option maxRecDepth 16384

noncomputable section

namespace Cert.Proof.Gin

open Cert.GinIdeal Cert.GinIdeal.Gen Cert.Proof.GinIdealRun Cert.Proof.Ffn Idealize.ShloMosaic Idealize.ShloMosaic.TcCoe Idealize.SL.Sem
open Idealize.ShloMosaic.Pipeline (Dat)

/-- Where each window's block lies at grid point `t`. -/
theorem idx : ∀ t : Fin cfg0.N, win0_0.index t = ![min t.val 63, 0] ∧ win0_1.index t = ![1, 0, 0] ∧ win0_2.index t = ![1, 0, 0]
    ∧ win0_3.index t = ![1, 0, 0] ∧ win0_9.index t = ![min t.val 63, 0] :=
  (by decide +kernel : ∀ t : Fin grid0.N, _)

variable (m : (ℓ : Loc nD τ sig) → Buf (Elt Ideal) ℓ)

/-- The rows of the block of `x` at grid point `t`. -/
theorem read_x (c : Dev nD) (t : Fin cfg0.N) (r : Fin 512) (d : Fin 1024) (R : Fin 32768) (hR : R.val = 512 * min t.val 63 + r.val) :
    iblk m c 0 t (ix2 r d) = m ((c : Thread nD τ).loc main_arg0) (ix2 R d) := by
  obtain ⟨i0, -⟩ := idx t
  blk_simp [iblk, V]
  blk_ext [i0]

/-- The block of gains. -/
theorem read_g (c : Dev nD) (t : Fin cfg0.N) (d : Fin 1024) :
    iblk m c 1 t (ix3 0 0 d) = m ((c : Thread nD τ).loc main_arg1) (ix2 1 d) := by
  obtain ⟨-, i1, -⟩ := idx t
  blk_simp [iblk]
  entry_read
  pointwise
  blk_ext [i1]

/-- The block of the first weights. -/
theorem read_w (c : Dev nD) (t : Fin cfg0.N) (d : Fin 1024) (j : Fin 5632) :
    iblk m c 2 t (ix3 0 d j) = m ((c : Thread nD τ).loc main_arg2) (ix3 1 d j) := by
  obtain ⟨-, -, i2, -⟩ := idx t
  blk_simp [iblk]
  entry_read
  pointwise
  blk_ext [i2]

/-- The block of the second weights. -/
theorem read_u (c : Dev nD) (t : Fin cfg0.N) (j : Fin 2816) (d : Fin 1024) :
    iblk m c 3 t (ix3 0 j d) = m ((c : Thread nD τ).loc main_arg3) (ix3 1 j d) := by
  obtain ⟨-, -, -, i3, -⟩ := idx t
  blk_simp [iblk]
  entry_read
  pointwise
  blk_ext [i3]

/-- The result array after the run is the feed-forward of the argument arrays. -/
theorem final (c : Dev nD) : (dats m 0 c).arrAt 9 cfg0.N = arr (m ((c : Thread nD τ).loc main_arg0))
    (m ((c : Thread nD τ).loc main_arg1)) (m ((c : Thread nD τ).loc main_arg2)) (m ((c : Thread nD τ).loc main_arg3)) 1 := by
  refine (dats m 0 c).arrAt_eq_of_covers 9 _ (by decide +kernel) fun t _ y => ?_
  blk_simp
  rw [after_9]
  unfold tileAt tileOf bodyRun
  dsimp only
  frame_out
  have h0 : (y 0).val < 512 := (y 0).isLt
  have h1 : (y 1).val < 1024 := (y 1).isLt
  obtain ⟨-, -, -, -, i9⟩ := idx t
  have ey : y = ix2 ⟨(y 0).val, h0⟩ ⟨(y 1).val, h1⟩ := funext fun a => by fin_cases a <;> rfl
  have e0 : (((View.whole main_v25_0).slice (win0_9.rect t)).emb y 0).val = 512 * min t.val 63 + (y 0).val := by
    blk_simp [i9]
    omega
  have e1 : ((View.whole main_v25_0).slice (win0_9.rect t)).emb y 1 = (⟨(y 1).val, h1⟩ : Fin 1024) := by
    refine Fin.ext ?_
    blk_simp [i9]
  refine (congrArg _ ey).trans ((point_apply (View.whole cc0_scratch0) (iblk m c 0 t) (k0_pay4 (iblk m c 0 t) (iblk m c 1 t))
    (fun d => iblk m c 1 t (ix3 0 0 d)) (iblk m c 2 t) (iblk m c 3 t) _ _ _ (fun d => norm_apply _ _ _ d)).trans ?_)
  unfold arr
  rw [e1]
  congr 1
  · exact funext fun d => read_x m c t _ d _ e0
  · exact funext fun d => read_g m c t d
  · exact funext fun d => funext fun j => read_w m c t d j
  · exact funext fun j => funext fun d => read_u m c t j d

end Cert.Proof.Gin

end
-- ==== Proof.GinClaim.lean ====
/- The feed-forward overlapped with the delta net's input and its reference end with equal results. -/
module

public import proofs.«01_k».proof.Defs
public import proofs.«01_k».proof.Proof.GinRef
public import proofs.«01_k».proof.Proof.GinValue
public import proofs.«01_k».proof.Proof.GinFrame
public import proofs.«01_k».proof.Proof.Gen.GinRefIdeal.Run

@[expose] public section

set_option maxRecDepth 16384

noncomputable section

namespace Cert.Proof.Gin

open Idealize.ShloMosaic Idealize.SL.Sem

/-- The kernel ends, its arguments unchanged and its counters at zero. -/
theorem quiescent : Cert.quiescent_Gin := fun m ρ _ =>
  (θ_run Cert.Gin.defs _ _).mono (fun _ h => ⟨fun c => (h.1 c).2, h.2⟩) (Cert.Proof.GinRun.run m ρ)

/-- Its idealization ends, its arguments unchanged and its counters at zero. -/
theorem quiescentIdeal : Cert.quiescent_GinIdeal := fun m ρ _ =>
  (θ_run Cert.GinIdeal.defs _ _).mono (fun _ h => ⟨fun c => (h.1 c).2, h.2⟩) (Cert.Proof.GinIdealRun.run m ρ)

/-- From memories that agree on the arguments, the kernel and the reference end with the same feed-forward. -/
theorem algebraic : Cert.algebraic_GinIdeal_GinRefIdeal := by
  intro m g m' g' _ hargs
  refine ⟨fun c => Ffn.arr (m (c.tc.loc Cert.GinIdeal.main_arg0)) (m (c.tc.loc Cert.GinIdeal.main_arg1))
    (m (c.tc.loc Cert.GinIdeal.main_arg2)) (m (c.tc.loc Cert.GinIdeal.main_arg3)) 1, ?_, ?_⟩
  · exact (θ_run _ _ _).mono (fun r h c => ⟨(h.1 c).1.trans (final m c), (h.1 c).2⟩) (Cert.Proof.GinIdealRun.run m g)
  · refine (θ_run _ _ _).mono (fun r h c => ⟨(h c).1.trans ?_, (h c).2⟩) (Cert.GinRefIdeal.Value.run m' g')
    rw [Cert.GinRefIdeal.Read.val_main_v27_eq, (hargs c).1, (hargs c).2.1, (hargs c).2.2.1, (hargs c).2.2.2.1]
    exact Cert.Proof.GinRef.value _ _ _ _

end Cert.Proof.Gin

end
-- ==== Proof.AinRow.lean ====
/- One row of the attention's input, over the extended reals. -/
module

public import proofs.«01_k».proof.Proof.FfnRow

@[expose] public section

noncomputable section

namespace Cert.Proof.Ain

open Cert.Proof.Ffn Idealize.ShloMosaic

/-- The normalized row times the input weights. -/
def proj (x g : Fin 1024 → EReal) (w : Fin 1024 → Fin 1960 → EReal) (j : Fin 1960) : EReal := ∑ d, normRow x g d * w d j

/-- Eight heads of queries: 64 scaled lanes, three lanes of minus one, 61 zeros. -/
def rowQf (p : Fin 1960 → EReal) (q : Fin 1024) : EReal :=
  if h : q.val % 128 < 64 then p ⟨64 * (q.val / 128) + q.val % 128, by omega⟩ * Ideal.ofBits .f32 0x3E38AA3B#32
  else if q.val % 128 < 67 then Ideal.ofBits .f32 0xBF800000#32 else 0

/-- Eight heads of values: 64 lanes, a one and 15 zeros. -/
def rowVf (p : Fin 1960 → EReal) (q : Fin 640) : EReal :=
  if h : q.val % 80 < 64 then p ⟨1024 + 64 * (q.val / 80) + q.val % 80, by omega⟩ else if q.val % 80 = 64 then 1 else 0

/-- A row read at two equal indices. -/
theorem mk_eq {n : ℕ} {α : Type} (f : Fin n → α) {a b : ℕ} {ha : a < n} {hb : b < n} (h : a = b) : f ⟨a, ha⟩ = f ⟨b, hb⟩ :=
  congrArg f (Fin.ext h)

/-- Products of equals. -/
theorem mul_eq {a b c d : EReal} (h : a = b) (k : c = d) : a * c = b * d := congrArg₂ _ h k

end Cert.Proof.Ain

end
-- ==== Proof.AinRef.lean ====
/- The reference of the attention's input, read at an index. -/
module

public import proofs.«01_k».proof.Proof.AinRow
public import proofs.«01_k».proof.Proof.Gen.AinRefIdeal.Read
public import Idealize.ShloMosaic.Lib.Pipeline.ValueKit

@[expose] public section

set_option maxRecDepth 16384

noncomputable section

namespace Cert.Proof.AinRef

open Cert.AinRefIdeal Cert.AinRefIdeal.Read Cert.Proof.Ffn Cert.Proof.Ain Idealize.ShloMosaic Idealize.ShloMosaic.TcCoe

variable (x0 : Vec Ideal S32768x1024 .f32) (x1 : Vec Ideal S2x1024 .f32) (x2 : Vec Ideal S1x1024x1960 .f32)

/-- A row of the input projection. -/
def P (R : Fin 32768) : Fin 1960 → EReal :=
  proj (fun d => x0 (ix2 R d)) (fun d => x1 (ix2 0 d)) (fun d j => x2 (ix3 0 d j))

/-- The input projection. -/
theorem proj_apply (R : Fin 32768) (j : Fin 1960) : val_main_v16 (F := Ideal) x0 x1 x2 (ix2 R j) = P x0 x1 x2 R j := by
  unfold P proj normRow
  pointwise [
    val_main_v16, val_main_v14, val_main_v11, val_main_v10, val_main_v9, val_main_v8, val_main_v6, val_main_v4, val_main_v3, val_main_v2,
    val_main_cst, val_main_v5, val_main_cst_0, val_main_v7, val_main_cst_1, val_main_v13, val_main_v12, val_main_v1, val_main_v0,
    val_main_v15]

/-- The heads' queries. -/
theorem qf_apply (q : Fin 1024) (R : Fin 32768) : val_main_v33 (F := Ideal) x0 x1 x2 (ix2 q R) = rowQf (P x0 x1 x2 R) q := by
  have hq := q.isLt
  have hR := R.isLt
  pointwise [
    val_main_v33, val_main_v32, val_main_v31, val_main_v26, val_main_v23, val_main_v21, val_main_v18, val_main_v17, val_main_v22,
    val_main_cst_2, val_main_v24, val_main_cst_3, val_main_v25, val_main_cst_4]
  unfold rowQf
  simp only [proj_apply]
  obtain k | k | k : q.val % 128 < 64 ∨ (64 ≤ q.val % 128 ∧ q.val % 128 < 67) ∨ 67 ≤ q.val % 128 := by omega
  all_goals repeat (first | rw [dif_pos (by omega)] | rw [dif_neg (by omega)] | rw [if_pos (by omega)] | rw [if_neg (by omega)])
  all_goals with_reducible
    repeat' (first | refine mul_eq ?_ ?_ | exact mk_eq (P x0 x1 x2 R) (by omega) | rfl)

/-- The heads' values. -/
theorem vf_apply (q : Fin 640) (R : Fin 32768) : val_main_v36 (F := Ideal) x0 x1 x2 (ix2 q R) = rowVf (P x0 x1 x2 R) q := by
  have hq := q.isLt
  have hR := R.isLt
  pointwise [
    val_main_v36, val_main_v35, val_main_v34, val_main_v30, val_main_v27, val_main_v20, val_main_v17, val_main_v28,
    val_main_cst_5, val_main_v29, val_main_cst_6]
  unfold rowVf
  simp only [proj_apply]
  obtain k | k | k : q.val % 80 < 64 ∨ q.val % 80 = 64 ∨ 64 < q.val % 80 := by omega
  all_goals repeat (first | rw [dif_pos (by omega)] | rw [dif_neg (by omega)] | rw [if_pos (by omega)] | rw [if_neg (by omega)])
  all_goals with_reducible
    repeat' (first | refine mul_eq ?_ ?_ | exact mk_eq (P x0 x1 x2 R) (by omega) | rfl)

end Cert.Proof.AinRef

end
-- ==== Proof.AinTile.lean ====
/- What a grid point of the attention's input computes. -/
module

public import proofs.«01_k».proof.Proof.AinRow
public import proofs.«01_k».proof.Proof.Gen.AinIdeal.Value
public import Idealize.ShloMosaic.Lib.Pipeline.ValueKit

@[expose] public section

set_option maxRecDepth 16384

noncomputable section

namespace Cert.Proof.Ain

open Cert.AinIdeal Cert.AinIdeal.Gen Cert.Proof.Ffn Idealize.ShloMosaic Idealize.ShloMosaic.TcCoe

/-- The product of the normalized block and the joined weights, read at an index. -/
theorem lin_apply (x : Vec Ideal S512x1024 .f32) (g : Vec Ideal S1x1024 .f32) (w : Vec Ideal S1024x2048 .bf16) (r : Fin 512) (j : Fin 2048) :
    k0_pay2 (F := Ideal) x g w (ix2 r j) = ∑ d, normRow (fun d => x (ix2 r d)) (fun d => g (ix2 0 d)) d * w (ix2 d j) := by
  unfold normRow
  pointwise [k0_pay2]

/-- A function of lanes at two lanes of one number. -/
theorem at_eq {n : ℕ} {α : Type} (f : Fin n → α) {i j : Fin n} (h : i.val = j.val) : f i = f j := congrArg f (Fin.ext h)

/-- A choice equals what both its branches equal. -/
theorem dite_eq {c : Prop} [Decidable c] {α : Type} {a : c → α} {b : ¬c → α} {x : α} (h : ∀ k, a k = x) (h' : ∀ k, b k = x) : dite c a b = x := by
  by_cases k : c
  · exact (dif_pos k).trans (h k)
  · exact (dif_neg k).trans (h' k)

/-- Comparing a small lane number with three. -/
theorem slt_three (n : ℕ) (h : n < 64) : IntOp.cmpi CmpIPredicate.slt (BitVec.ofNat 32 n) 3#32 = if n < 3 then 1#1 else 0#1 :=
  (by decide : ∀ n : Fin 64, IntOp.cmpi CmpIPredicate.slt (BitVec.ofNat 32 n.val) 3#32 = if n.val < 3 then 1#1 else 0#1) ⟨n, h⟩

/-- Comparing a small lane number with zero. -/
theorem eq_zero (n : ℕ) (h : n < 16) : IntOp.cmpi CmpIPredicate.eq (BitVec.ofNat 32 n) 0#32 = if n = 0 then 1#1 else 0#1 :=
  (by decide : ∀ n : Fin 16, IntOp.cmpi CmpIPredicate.eq (BitVec.ofNat 32 n.val) 0#32 = if n.val = 0 then 1#1 else 0#1) ⟨n, h⟩

set_option maxHeartbeats 2000000 in
/-- The queries, read at an index: 64 lanes and 64 spare lanes to a head. -/
theorem qf_apply (x : Vec Ideal S512x1024 .f32) (g : Vec Ideal S1x1024 .f32) (w : Vec Ideal S1024x2048 .bf16) (q : Fin 1024) (r : Fin 512) :
    k0_pay3 (F := Ideal) x g w (ix2 q r)
      = if h : q.val % 128 < 64 then k0_pay2 (F := Ideal) x g w (ix2 r ⟨64 * (q.val / 128) + q.val % 128, by omega⟩) * Ideal.ofBits .f32 0x3E38AA3B#32
        else if q.val % 128 < 67 then Ideal.ofBits .f32 0xBF800000#32 else 0 := by
  unfold k0_pay3
  generalize k0_pay2 (F := Ideal) x g w = y
  have hq := q.isLt
  pointwise []
  with_reducible repeat' (refine dite_eq (fun _ => ?_) (fun _ => ?_))
  all_goals first
    | (rw [dif_pos (by omega)]
       exact at_eq (fun j : Fin 2048 => y (ix2 r j) * _) (by show _ = _; dsimp only; omega))
    | (rw [dif_neg (by omega), slt_three]
       · split_ifs <;> first | rfl | (exfalso; omega)
       · omega)

set_option maxHeartbeats 2000000 in
/-- The values, read at an index: 64 lanes, a one and 15 zeros to a head. -/
theorem vf_apply (y : FVec Ideal S512x2048 .f32) (q : Fin 640) (r : Fin 512) :
    k0_pay5 (F := Ideal) y (iota .tc S16x512 32 [0] iota_S16x512_d0_w32) 0#32 (ix2 q r)
      = if h : q.val % 80 < 64 then y (ix2 r ⟨1024 + 64 * (q.val / 80) + q.val % 80, by omega⟩)
        else if q.val % 80 = 64 then 1 else 0 := by
  have hq := q.isLt
  pointwise [k0_pay5, k0_pay4]
  with_reducible repeat' (refine dite_eq (fun _ => ?_) (fun _ => ?_))
  all_goals first
    | (rw [dif_pos (by omega)]
       exact at_eq (fun j : Fin 2048 => y (ix2 r j)) (by show _ = _; dsimp only; omega))
    | (rw [dif_neg (by omega), eq_zero]
       · split_ifs <;> first | rfl | (exfalso; omega)
       · omega)

/-- The block of queries, where the joined weights begin with `W`. -/
theorem qf_row (x : Vec Ideal S512x1024 .f32) (g : Vec Ideal S1x1024 .f32) (w : Vec Ideal S1024x2048 .bf16) (W : Fin 1024 → Fin 1960 → EReal)
    (hw : ∀ (d : Fin 1024) (j : Fin 2048) (h : j.val < 1536), w (ix2 d j) = W d ⟨j.val, by omega⟩) (q : Fin 1024) (r : Fin 512) :
    k0_pay3 (F := Ideal) x g w (ix2 q r) = rowQf (proj (fun d => x (ix2 r d)) (fun d => g (ix2 0 d)) W) q := by
  have hq := q.isLt
  rw [qf_apply]
  unfold rowQf
  by_cases k : q.val % 128 < 64
  · rw [dif_pos k, dif_pos k, lin_apply]
    unfold proj
    exact mul_eq (Finset.sum_congr rfl fun d _ => mul_eq rfl (hw d ⟨64 * (q.val / 128) + q.val % 128, by omega⟩ (by dsimp only; omega))) rfl
  · rw [dif_neg k, dif_neg k]

/-- The block of values, where the joined weights begin with `W`. -/
theorem vf_row (x : Vec Ideal S512x1024 .f32) (g : Vec Ideal S1x1024 .f32) (w : Vec Ideal S1024x2048 .bf16) (W : Fin 1024 → Fin 1960 → EReal)
    (hw : ∀ (d : Fin 1024) (j : Fin 2048) (h : j.val < 1536), w (ix2 d j) = W d ⟨j.val, by omega⟩) (q : Fin 640) (r : Fin 512) :
    k0_pay5 (F := Ideal) (k0_pay2 x g w) (iota .tc S16x512 32 [0] iota_S16x512_d0_w32) 0#32 (ix2 q r)
      = rowVf (proj (fun d => x (ix2 r d)) (fun d => g (ix2 0 d)) W) q := by
  have hq := q.isLt
  rw [vf_apply]
  unfold rowVf
  by_cases k : q.val % 80 < 64
  · rw [dif_pos k, dif_pos k, lin_apply]
    unfold proj
    exact Finset.sum_congr rfl fun d _ => mul_eq rfl (hw d ⟨1024 + 64 * (q.val / 80) + q.val % 80, by omega⟩ (by dsimp only; omega))
  · rw [dif_neg k, dif_neg k]

end Cert.Proof.Ain

end
-- ==== Proof.AinBlocks.lean ====
/- What the blocks of the attention's input hold, in terms of the arguments. -/
module

public import proofs.«01_k».proof.Proof.AinTile
public import Idealize.ShloMosaic.Lib.Pipeline.ValueKit
public import Idealize.ShloMosaic.Lib.StableHlo.RunRead

@[expose] public section

set_option maxRecDepth 16384

noncomputable section

namespace Cert.Proof.Ain

open Cert.AinIdeal Cert.AinIdeal.Gen Idealize.ShloMosaic Idealize.ShloMosaic.TcCoe

/-- Where each window's block lies at grid point `t`. -/
theorem idx : ∀ t : Fin cfg0.N, win0_0.index t = ![t.val, 0] ∧ win0_1.index t = ![0, 0] ∧ win0_2.index t = ![0, 0]
    ∧ win0_13.index t = ![0, t.val] ∧ win0_15.index t = ![0, t.val] :=
  (by decide +kernel : ∀ t : Fin grid0.N, _)

variable (m : (ℓ : Loc nD τ sig) → Buf (Elt Ideal) ℓ)

/-- The rows of the block of `x` at grid point `t`. -/
theorem read_x (c : Dev nD) (t : Fin cfg0.N) (r : Fin 512) (d : Fin 1024) (R : Fin 32768) (hR : R.val = 512 * t.val + r.val) :
    iblk m c 0 t (ix2 r d) = m ((c : Thread nD τ).loc main_arg0) (ix2 R d) := by
  obtain ⟨i0, -⟩ := idx t
  blk_simp [iblk, V]
  blk_ext [i0]

/-- The block of gains. -/
theorem read_g (c : Dev nD) (t : Fin cfg0.N) (d : Fin 1024) :
    iblk m c 1 t (ix2 0 d) = m ((c : Thread nD τ).loc main_arg1) (ix2 0 d) := by
  obtain ⟨-, i1, -⟩ := idx t
  blk_simp [iblk]
  entry_read
  pointwise
  blk_ext [i1]

set_option maxHeartbeats 2000000 in
/-- The joined weights begin with the first 1536 columns of the argument. -/
theorem host_w (c : Dev nD) (e : Fin 1024) (q : Fin 2048) (hq : q.val < 1536) :
    V m c main_v20 (ix2 e q) = m ((c : Thread nD τ).loc main_arg2) (ix3 0 e ⟨q.val, by omega⟩) := by
  unfold V
  after_reads_simp
  pointwise
  repeat' (after_reads_simp; pointwise)
  with_reducible repeat' (refine dite_eq (fun _ => ?_) (fun _ => ?_))
  all_goals first
    | (exfalso; omega)
    | exact mk_eq (fun j : Fin 1960 => m ((c : Thread nD τ).loc main_arg2) (ix3 0 e j)) (by omega)

/-- The block of joined weights. -/
theorem read_w (c : Dev nD) (t : Fin cfg0.N) (e : Fin 1024) (q : Fin 2048) (hq : q.val < 1536) :
    iblk m c 2 t (ix2 e q) = m ((c : Thread nD τ).loc main_arg2) (ix3 0 e ⟨q.val, by omega⟩) := by
  refine Eq.trans ?_ (host_w m c e q hq)
  obtain ⟨-, -, i2, -⟩ := idx t
  blk_simp [iblk]
  blk_ext [i2]

end Cert.Proof.Ain

end
-- ==== Proof.AinValue.lean ====
/- The arrays of the attention's input, after the kernel's run. -/
module

public import proofs.«01_k».proof.Proof.AinBlocks
public import Idealize.ShloMosaic.Lib.Claim

@[expose] public section

set_option maxRecDepth 16384

noncomputable section

namespace Cert.Proof.Ain

open Cert.AinIdeal Cert.AinIdeal.Gen Cert.Proof.Ffn Idealize.ShloMosaic Idealize.ShloMosaic.TcCoe Idealize.SL.Sem
open Idealize.ShloMosaic.Pipeline (Dat)

/-- The queries of the argument arrays. -/
def arrQf (x : Vec Ideal S32768x1024 .f32) (g : Vec Ideal S2x1024 .f32) (w : Vec Ideal S1x1024x1960 .f32) : Vec Ideal S1024x32768 .bf16 :=
  fun y => rowQf (proj (fun d => x (ix2 (y 1) d)) (fun d => g (ix2 0 d)) (fun d j => w (ix3 0 d j))) (y 0)

/-- The values of the argument arrays. -/
def arrVf (x : Vec Ideal S32768x1024 .f32) (g : Vec Ideal S2x1024 .f32) (w : Vec Ideal S1x1024x1960 .f32) : Vec Ideal S640x32768 .bf16 :=
  fun y => rowVf (proj (fun d => x (ix2 (y 1) d)) (fun d => g (ix2 0 d)) (fun d j => w (ix3 0 d j))) (y 0)

variable (m : (ℓ : Loc nD τ sig) → Buf (Elt Ideal) ℓ)

/-- A block of queries, entry by entry. -/
theorem point13 (c : Dev nD) (t : Fin cfg0.N) (y : ((cfg0.win 13).xblock (cfg0.grid.coords t)).Idx) :
    k0_pay3 (F := Ideal) (iblk m c 0 t) (iblk m c 1 t) (iblk m c 2 t) y = arrQf (m ((c : Thread nD τ).loc main_arg0)) (m ((c : Thread nD τ).loc main_arg1))
      (m ((c : Thread nD τ).loc main_arg2)) (((View.whole main_v73_0).slice (win0_13.rect t)).emb y) := by
  have h0 : (y 0).val < 1024 := (y 0).isLt
  have h1 : (y 1).val < 512 := (y 1).isLt
  obtain ⟨-, -, -, i13, i15⟩ := idx t
  have ey : y = ix2 ⟨(y 0).val, h0⟩ ⟨(y 1).val, h1⟩ := funext fun a => by fin_cases a <;> rfl
  have e0 : ((View.whole main_v73_0).slice (win0_13.rect t)).emb y 0 = (⟨(y 0).val, h0⟩ : Fin 1024) := by
    refine Fin.ext ?_
    blk_simp [i13]
  have e1 : (((View.whole main_v73_0).slice (win0_13.rect t)).emb y 1).val = 512 * t.val + (y 1).val := by
    blk_simp [i13]
    omega
  refine (congrArg _ ey).trans ((qf_row (iblk m c 0 t) (iblk m c 1 t) (iblk m c 2 t)
    (fun d j => m ((c : Thread nD τ).loc main_arg2) (ix3 0 d j)) (fun d j h => read_w m c t d j h) _ _).trans ?_)
  unfold arrQf
  rw [e0]
  congr 2
  · exact funext fun d => read_x m c t _ d _ e1
  · exact funext fun d => read_g m c t d

/-- The array of queries after the run. -/
theorem final13 (c : Dev nD) : (dats m 0 c).arrAt 13 cfg0.N = arrQf (m ((c : Thread nD τ).loc main_arg0))
    (m ((c : Thread nD τ).loc main_arg1)) (m ((c : Thread nD τ).loc main_arg2)) := by
  refine (dats m 0 c).arrAt_eq_of_covers 13 _ (by decide +kernel) fun t _ y => ?_
  blk_simp
  rw [after0_13]
  by_cases k : t.val % 4 = 0
  · rw [outsAt0_A m c t k]
    dsimp only
    frame_out
    exact point13 m c t y
  · rw [outsAt0_B m c t k]
    dsimp only
    frame_out
    exact point13 m c t y

/-- A block of values, entry by entry. -/
theorem point15 (c : Dev nD) (t : Fin cfg0.N) (y : ((cfg0.win 15).xblock (cfg0.grid.coords t)).Idx) :
    k0_pay5 (F := Ideal) (k0_pay2 (iblk m c 0 t) (iblk m c 1 t) (iblk m c 2 t)) (iota .tc S16x512 32 [0] iota_S16x512_d0_w32) 0#32 y = arrVf (m ((c : Thread nD τ).loc main_arg0)) (m ((c : Thread nD τ).loc main_arg1))
      (m ((c : Thread nD τ).loc main_arg2)) (((View.whole main_v73_2).slice (win0_15.rect t)).emb y) := by
  have h0 : (y 0).val < 640 := (y 0).isLt
  have h1 : (y 1).val < 512 := (y 1).isLt
  obtain ⟨-, -, -, i13, i15⟩ := idx t
  have ey : y = ix2 ⟨(y 0).val, h0⟩ ⟨(y 1).val, h1⟩ := funext fun a => by fin_cases a <;> rfl
  have e0 : ((View.whole main_v73_2).slice (win0_15.rect t)).emb y 0 = (⟨(y 0).val, h0⟩ : Fin 640) := by
    refine Fin.ext ?_
    blk_simp [i15]
  have e1 : (((View.whole main_v73_2).slice (win0_15.rect t)).emb y 1).val = 512 * t.val + (y 1).val := by
    blk_simp [i15]
    omega
  refine (congrArg _ ey).trans ((vf_row (iblk m c 0 t) (iblk m c 1 t) (iblk m c 2 t)
    (fun d j => m ((c : Thread nD τ).loc main_arg2) (ix3 0 d j)) (fun d j h => read_w m c t d j h) _ _).trans ?_)
  unfold arrVf
  rw [e0]
  congr 2
  · exact funext fun d => read_x m c t _ d _ e1
  · exact funext fun d => read_g m c t d

/-- The array of values after the run. -/
theorem final15 (c : Dev nD) : (dats m 0 c).arrAt 15 cfg0.N = arrVf (m ((c : Thread nD τ).loc main_arg0))
    (m ((c : Thread nD τ).loc main_arg1)) (m ((c : Thread nD τ).loc main_arg2)) := by
  refine (dats m 0 c).arrAt_eq_of_covers 15 _ (by decide +kernel) fun t _ y => ?_
  blk_simp
  rw [after0_15]
  by_cases k : t.val % 4 = 0
  · rw [outsAt0_A m c t k]
    dsimp only
    frame_out
    exact point15 m c t y
  · rw [outsAt0_B m c t k]
    dsimp only
    frame_out
    exact point15 m c t y

end Cert.Proof.Ain

end
-- ==== Proof.AinClaim.lean ====
/- The attention's input and its reference end with equal results. -/
module

public import proofs.«01_k».proof.Defs
public import proofs.«01_k».proof.Proof.AinRef
public import proofs.«01_k».proof.Proof.AinValue
public import proofs.«01_k».proof.Proof.Gen.AinRefIdeal.Run

@[expose] public section

set_option maxRecDepth 16384

noncomputable section

namespace Cert.Proof.Ain

open Idealize.ShloMosaic Idealize.SL.Sem

/-- The reference's queries. -/
theorem refQf (x : Vec Ideal Cert.AinRefIdeal.S32768x1024 .f32) (g : Vec Ideal Cert.AinRefIdeal.S2x1024 .f32)
    (w : Vec Ideal Cert.AinRefIdeal.S1x1024x1960 .f32) : Cert.AinRefIdeal.Read.val_main_v33 (F := Ideal) x g w = arrQf x g w := by
  funext y
  have h0 : (y 0).val < 1024 := (y 0).isLt
  have h1 : (y 1).val < 32768 := (y 1).isLt
  obtain ⟨q, R, rfl⟩ : ∃ (q : Fin 1024) (R : Fin 32768), y = ix2 q R :=
    ⟨⟨(y 0).val, h0⟩, ⟨(y 1).val, h1⟩, funext fun a => by fin_cases a <;> rfl⟩
  exact AinRef.qf_apply x g w q R

/-- The reference's values. -/
theorem refVf (x : Vec Ideal Cert.AinRefIdeal.S32768x1024 .f32) (g : Vec Ideal Cert.AinRefIdeal.S2x1024 .f32)
    (w : Vec Ideal Cert.AinRefIdeal.S1x1024x1960 .f32) : Cert.AinRefIdeal.Read.val_main_v36 (F := Ideal) x g w = arrVf x g w := by
  funext y
  have h0 : (y 0).val < 640 := (y 0).isLt
  have h1 : (y 1).val < 32768 := (y 1).isLt
  obtain ⟨q, R, rfl⟩ : ∃ (q : Fin 640) (R : Fin 32768), y = ix2 q R :=
    ⟨⟨(y 0).val, h0⟩, ⟨(y 1).val, h1⟩, funext fun a => by fin_cases a <;> rfl⟩
  exact AinRef.vf_apply x g w q R

/-- From memories that agree on the arguments, the kernel and the reference end with the same queries and values. -/
theorem algebraic : Cert.algebraic_AinIdeal_AinRefIdeal := by
  intro m g m' g' _ hargs
  refine ⟨fun c => arrQf (m (c.tc.loc Cert.AinIdeal.main_arg0)) (m (c.tc.loc Cert.AinIdeal.main_arg1)) (m (c.tc.loc Cert.AinIdeal.main_arg2)),
    fun c => arrVf (m (c.tc.loc Cert.AinIdeal.main_arg0)) (m (c.tc.loc Cert.AinIdeal.main_arg1)) (m (c.tc.loc Cert.AinIdeal.main_arg2)), ?_, ?_⟩
  · exact (θ_run _ _ _).mono (fun r h c => ⟨(h c).1.trans (final13 m c), (h c).2.2.1.trans (final15 m c), (h c).2.2.2.2.2.2⟩)
      (Cert.AinIdeal.Value.run_blocks m g)
  · refine (θ_run _ _ _).mono (fun r h c => ⟨(h c).1.trans ?_, (h c).2.1.trans ?_, (h c).2.2⟩) (Cert.AinRefIdeal.Value.run m' g')
    · rw [Cert.AinRefIdeal.Read.val_main_v33_eq, (hargs c).1, (hargs c).2.1, (hargs c).2.2.1]
      exact refQf _ _ _
    · rw [Cert.AinRefIdeal.Read.val_main_v36_eq, (hargs c).1, (hargs c).2.1, (hargs c).2.2.1]
      exact refVf _ _ _

end Cert.Proof.Ain

end
-- ==== Proof.lean ====
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinIdeal.Value
public import proofs.«01_k».proof.Proof.Gen.FinRefIdeal
public import proofs.«01_k».proof.Proof.Gen.FinRefIdeal.Run
public import proofs.«01_k».proof.Proof.Gen.FinRefIdeal.Read
public import proofs.«01_k».proof.Proof.Gen.Gin
public import proofs.«01_k».proof.Proof.Gen.Gin.Skeleton
public import proofs.«01_k».proof.Proof.Gen.Gin.Launch
public import proofs.«01_k».proof.Proof.Gen.Gin.Points
public import proofs.«01_k».proof.Proof.Gen.Gin.Frame
public import proofs.«01_k».proof.Proof.Gen.GinIdeal
public import proofs.«01_k».proof.Proof.Gen.GinIdeal.Skeleton
public import proofs.«01_k».proof.Proof.Gen.GinIdeal.Launch
public import proofs.«01_k».proof.Proof.Gen.GinIdeal.Points
public import proofs.«01_k».proof.Proof.Gen.GinIdeal.Frame
public import proofs.«01_k».proof.Proof.Gen.GinRefIdeal
public import proofs.«01_k».proof.Proof.Gen.GinRefIdeal.Run
public import proofs.«01_k».proof.Proof.Gen.GinRefIdeal.Read
public import proofs.«01_k».proof.Proof.Gen.Ain
public import proofs.«01_k».proof.Proof.Gen.Ain.Skeleton
public import proofs.«01_k».proof.Proof.Gen.Ain.Launch
public import proofs.«01_k».proof.Proof.Gen.Ain.Points
public import proofs.«01_k».proof.Proof.Gen.Ain.Frame
public import proofs.«01_k».proof.Proof.Gen.AinIdeal
public import proofs.«01_k».proof.Proof.Gen.AinIdeal.Skeleton
public import proofs.«01_k».proof.Proof.Gen.AinIdeal.Launch
public import proofs.«01_k».proof.Proof.Gen.AinIdeal.Points
public import proofs.«01_k».proof.Proof.Gen.AinIdeal.Frame
public import proofs.«01_k».proof.Proof.Gen.AinIdeal.Value
public import proofs.«01_k».proof.Proof.Gen.AinRefIdeal
public import proofs.«01_k».proof.Proof.Gen.AinRefIdeal.Run
public import proofs.«01_k».proof.Proof.Gen.AinRefIdeal.Read
public import proofs.«01_k».proof.Proof.Gen.Pre_finite_scores_unit_row
public import proofs.«01_k».proof.Proof.FoxClaim
public import proofs.«01_k».proof.Proof.MlaClaim
public import proofs.«01_k».proof.Proof.FfnClaim
public import proofs.«01_k».proof.Proof.MixClaim
public import proofs.«01_k».proof.Proof.FinClaim
public import proofs.«01_k».proof.Proof.GinClaim
public import proofs.«01_k».proof.Proof.AinClaim
public import Idealize.ShloMosaic.Lib.Quiescent
public import Idealize.ShloMosaic.Adequacy
public import Idealize.ShloMosaic.Init

@[expose] public section

noncomputable section

namespace Cert.Proof

open Idealize.ShloMosaic Idealize.SL.Sem

/-- The causal attention's reference ends, its arguments unchanged and its counters at zero. -/
theorem quiescentFox : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The same under the precondition, which the run does not need. -/
theorem quiescentFoxPre : Cert.quiescent_FoxRefIdeal_pre_finite_scores_unit_row := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The block-causal attention's reference ends, its arguments unchanged and its counters at zero. -/
theorem quiescentMla : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The same under the precondition, which the run does not need. -/
theorem quiescentMlaPre : Cert.quiescent_MlaRefIdeal_pre_finite_scores_unit_row := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The first feed-forward's reference ends, its arguments unchanged and its counters at zero. -/
theorem quiescentFfn : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The second feed-forward's reference ends, its arguments unchanged and its counters at zero. -/
theorem quiescentMix : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The last feed-forward's reference ends, its arguments unchanged and its counters at zero. -/
theorem quiescentFin : Cert.quiescent_FinRefIdeal := fun m ρ _ =>
  (θ_run Cert.FinRefIdeal.defs _ _).mono (fun r h => ⟨fun c => (h c).2, sem_eq_zero_of_no_sems (by decide) r.2⟩)
    (Cert.FinRefIdeal.Value.run (F := Ideal) m ρ)

/-- The reference of the feed-forward overlapped with the delta net's input ends, its arguments unchanged and its counters at zero. -/
theorem quiescentGin : Cert.quiescent_GinRefIdeal := fun m ρ _ =>
  (θ_run Cert.GinRefIdeal.defs _ _).mono (fun r h => ⟨fun c => (h c).2, sem_eq_zero_of_no_sems (by decide) r.2⟩)
    (Cert.GinRefIdeal.Value.run (F := Ideal) m ρ)

/-- The reference of the attention's input ends, its arguments unchanged and its counters at zero. -/
theorem quiescentAin : Cert.quiescent_AinRefIdeal := fun m ρ _ =>
  (θ_run Cert.AinRefIdeal.defs _ _).mono (fun r h => ⟨fun c => (h c).2.2, sem_eq_zero_of_no_sems (by decide) r.2⟩)
    (Cert.AinRefIdeal.Value.run (F := Ideal) m ρ)

/-- Every claim of the certificate. -/
theorem claim : Cert.Claim := ⟨
  Cert.Fox.Gen.facts, Cert.FoxIdeal.Gen.facts, Cert.FoxRefIdeal.Gen.facts,
  Cert.Mla.Gen.facts, Cert.MlaIdeal.Gen.facts, Cert.MlaRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Fin.Gen.facts, Cert.FinIdeal.Gen.facts, Cert.FinRefIdeal.Gen.facts,
  Cert.Gin.Gen.facts, Cert.GinIdeal.Gen.facts, Cert.GinRefIdeal.Gen.facts,
  Cert.Ain.Gen.facts, Cert.AinIdeal.Gen.facts, Cert.AinRefIdeal.Gen.facts,
  Cert.Pre_finite_scores_unit_row.Gen.facts,
  fun m ρ _ => Cert.Fox.Gen.frame m ρ,
  fun m ρ _ => Cert.FoxIdeal.Gen.frame m ρ,
  fun m ρ _ => Cert.FoxIdeal.Gen.frame m ρ,
  quiescentFox, quiescentFoxPre,
  fun m ρ _ => Cert.Mla.Gen.frame m ρ,
  fun m ρ _ => Cert.MlaIdeal.Gen.frame m ρ,
  fun m ρ _ => Cert.MlaIdeal.Gen.frame m ρ,
  quiescentMla, quiescentMlaPre,
  fun m ρ _ => Cert.Ffn.Gen.frame m ρ,
  fun m ρ _ => Cert.FfnIdeal.Gen.frame m ρ,
  quiescentFfn,
  fun m ρ _ => Cert.Mix.Gen.frame m ρ,
  fun m ρ _ => Cert.MixIdeal.Gen.frame m ρ,
  quiescentMix,
  fun m ρ _ => Cert.Fin.Gen.frame m ρ,
  fun m ρ _ => Cert.FinIdeal.Gen.frame m ρ,
  quiescentFin,
  Gin.quiescent, Gin.quiescentIdeal, quiescentGin,
  fun m ρ _ => Cert.Ain.Gen.frame m ρ,
  fun m ρ _ => Cert.AinIdeal.Gen.frame m ρ,
  quiescentAin,
  Fox.preserves, Fox.algebraic,
  Mla.preserves, Mla.algebraic,
  trivial, Ffn.algebraic,
  trivial, Mix.algebraic,
  trivial, Fin.algebraic,
  trivial, Gin.algebraic,
  trivial, Ain.algebraic⟩

end Cert.Proof

end
